-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_is_finite [hPre_gain_is_finite : Cert.Pre_gain_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gain_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_is_finite [hPre_gain_is_finite : Cert.Pre_gain_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gain_is_finite [hKernelIdeal : Cert.KernelIdeal.Facts] [hPre_gain_is_finite : Cert.Pre_gain_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gain_is_finite [hReferenceIdeal : Cert.ReferenceIdeal.Facts] [hPre_gain_is_finite : Cert.Pre_gain_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gain_is_finite [hKernelIdeal : Cert.KernelIdeal.Facts] [hReferenceIdeal : Cert.ReferenceIdeal.Facts] [hPre_gain_is_finite : Cert.Pre_gain_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceIdeal_on_only_new_residual [hKernelIdeal : Cert.KernelIdeal.Facts] [hReferenceIdeal : Cert.ReferenceIdeal.Facts] [hOn_only_new_residual : Cert.On_only_new_residual.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![3, 2048, 7168]⟩ : Shape).Idx, (Cert.On_only_new_residual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v6) i = v0 c i)
          ∧ (∀ i : (⟨3, ![3, 2048, 7168]⟩ : Shape).Idx, (Cert.On_only_new_residual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v7) i = v1 c i)
          ∧ (∀ i : (⟨3, ![3, 2048, 224]⟩ : Shape).Idx, (Cert.On_only_new_residual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v8) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![3, 2048, 7168]⟩ : Shape).Idx, (Cert.On_only_new_residual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v0_0) i = v0 c i)
          ∧ (∀ i : (⟨3, ![3, 2048, 7168]⟩ : Shape).Idx, (Cert.On_only_new_residual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v0_1) i = v1 c i)
          ∧ (∀ i : (⟨3, ![3, 2048, 224]⟩ : Shape).Idx, (Cert.On_only_new_residual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v0_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gain_is_finite : Cert.Pre_gain_is_finite.Facts) (hOn_only_new_residual : Cert.On_only_new_residual.Facts),
    quiescent_Kernel (hKernel := hKernel)
    ∧ quiescent_KernelIdeal (hKernelIdeal := hKernelIdeal)
    ∧ quiescent_KernelIdeal_pre_gain_is_finite (hKernelIdeal := hKernelIdeal) (hPre_gain_is_finite := hPre_gain_is_finite)
    ∧ quiescent_ReferenceIdeal (hReferenceIdeal := hReferenceIdeal)
    ∧ quiescent_ReferenceIdeal_pre_gain_is_finite (hReferenceIdeal := hReferenceIdeal) (hPre_gain_is_finite := hPre_gain_is_finite)
    ∧ preserves_Kernel_KernelIdeal
    ∧ algebraic_KernelIdeal_ReferenceIdeal_pre_gain_is_finite (hKernelIdeal := hKernelIdeal) (hReferenceIdeal := hReferenceIdeal) (hPre_gain_is_finite := hPre_gain_is_finite)
    ∧ algebraic_KernelIdeal_ReferenceIdeal_on_only_new_residual (hKernelIdeal := hKernelIdeal) (hReferenceIdeal := hReferenceIdeal) (hOn_only_new_residual := hOn_only_new_residual)
-- ==== On_only_new_residual.lean ====
abbrev S4x3x2048x7168 : Shape := ⟨4, ![4, 3, 2048, 7168]⟩
abbrev S4x3x2048x224 : Shape := ⟨4, ![4, 3, 2048, 224]⟩
abbrev S7168 : Shape := ⟨1, ![7168]⟩
abbrev S3x2048x7168 : Shape := ⟨3, ![3, 2048, 7168]⟩
abbrev S_ : Shape := ⟨0, ![]⟩
abbrev S3x2048x224 : Shape := ⟨3, ![3, 2048, 224]⟩

class Facts : Prop where
  bcast_S_S3x2048x7168 : S_.BroadcastsInDim S3x2048x7168 (![] : Fin 0 → Fin S3x2048x7168.rank)
  bcast_S_S3x2048x224 : S_.BroadcastsInDim S3x2048x224 (![] : Fin 0 → Fin S3x2048x224.rank)

variable [Facts]

def fn {F : FTy → Type} [FloatOps F] (main_arg0 : FVec F S4x3x2048x7168 .fp8e4m3) (main_arg1 : FVec F S4x3x2048x224 .f32) (main_arg2 : FVec F S7168 .f32) (main_arg3 : FVec F S3x2048x7168 .bf16) (main_arg4 : FVec F S7168 .f32) : IVec S3x2048x7168 1 × IVec S3x2048x7168 1 × IVec S3x2048x224 1 :=
  let main_c : IVec S_ 1 := constantI S_ 1 1#1
  let main_v0 : IVec S3x2048x7168 1 := broadcastInDim S3x2048x7168 ![] bcast_S_S3x2048x7168 main_c
  let main_c_0 : IVec S_ 1 := constantI S_ 1 0#1
  let main_v1 : IVec S3x2048x7168 1 := broadcastInDim S3x2048x7168 ![] bcast_S_S3x2048x7168 main_c_0
  let main_c_1 : IVec S_ 1 := constantI S_ 1 0#1
  let main_v2 : IVec S3x2048x224 1 := broadcastInDim S3x2048x224 ![] bcast_S_S3x2048x224 main_c_1
  (main_v0, main_v1, main_v2)
-- ==== Pre_gain_is_finite.lean ====
abbrev S4x3x2048x7168 : Shape := ⟨4, ![4, 3, 2048, 7168]⟩
abbrev S4x3x2048x224 : Shape := ⟨4, ![4, 3, 2048, 224]⟩
abbrev S7168 : Shape := ⟨1, ![7168]⟩
abbrev S3x2048x7168 : Shape := ⟨3, ![3, 2048, 7168]⟩
abbrev S_ : Shape := ⟨0, ![]⟩

class Facts : Prop where
  bcast_S_S7168 : S_.BroadcastsInDim S7168 (![] : Fin 0 → Fin S7168.rank)

variable [Facts]

def fn {F : FTy → Type} [FloatOps F] (main_arg0 : FVec F S4x3x2048x7168 .fp8e4m3) (main_arg1 : FVec F S4x3x2048x224 .f32) (main_arg2 : FVec F S7168 .f32) (main_arg3 : FVec F S3x2048x7168 .bf16) (main_arg4 : FVec F S7168 .f32) : IVec S7168 1 :=
  let main_v0 : FVec F S7168 .f32 := Host.absf main_arg4
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  main_v2
-- ==== Kernel.lean ====
abbrev S4x3x2048x7168 : Shape := ⟨4, ![4, 3, 2048, 7168]⟩
abbrev S4x3x2048x224 : Shape := ⟨4, ![4, 3, 2048, 224]⟩
abbrev S7168 : Shape := ⟨1, ![7168]⟩
abbrev S3x2048x7168 : Shape := ⟨3, ![3, 2048, 7168]⟩
abbrev S4x6144x7168 : Shape := ⟨3, ![4, 6144, 7168]⟩
abbrev S4x6144x224 : Shape := ⟨3, ![4, 6144, 224]⟩
abbrev S6144x7168 : Shape := ⟨2, ![6144, 7168]⟩
abbrev S1x7168 : Shape := ⟨2, ![1, 7168]⟩
abbrev S6144x224 : Shape := ⟨2, ![6144, 224]⟩
abbrev S4x128x7168 : Shape := ⟨3, ![4, 128, 7168]⟩
abbrev S4x128x224 : Shape := ⟨3, ![4, 128, 224]⟩
abbrev S128x7168 : Shape := ⟨2, ![128, 7168]⟩
abbrev S128x224 : Shape := ⟨2, ![128, 224]⟩
abbrev S32x7168 : Shape := ⟨2, ![32, 7168]⟩
abbrev S8x128 : Shape := ⟨2, ![8, 128]⟩
abbrev S16x128 : Shape := ⟨2, ![16, 128]⟩
abbrev S1x32x224 : Shape := ⟨3, ![1, 32, 224]⟩
abbrev S32x224 : Shape := ⟨2, ![32, 224]⟩
abbrev S32x128 : Shape := ⟨2, ![32, 128]⟩
abbrev S32x96 : Shape := ⟨2, ![32, 96]⟩
abbrev S32x32 : Shape := ⟨2, ![32, 32]⟩
abbrev S1x128 : Shape := ⟨2, ![1, 128]⟩
abbrev S1x32x128 : Shape := ⟨3, ![1, 32, 128]⟩
abbrev S16x128x1 : Shape := ⟨3, ![16, 128, 1]⟩
abbrev S8 : Shape := ⟨1, ![8]⟩
abbrev S8x1 : Shape := ⟨2, ![8, 1]⟩
abbrev S8x128x1 : Shape := ⟨3, ![8, 128, 1]⟩
abbrev S8x96 : Shape := ⟨2, ![8, 96]⟩
abbrev S3x2048x224 : Shape := ⟨3, ![3, 2048, 224]⟩

abbrev nBuf : Space → Nat
  | .hbm => 16
  | .vmem => 15
  | .smem => 0
  | _ => 0

abbrev bufTy : (tb : Table) → Fin (tcTables nBuf tb) → BufTy
  | .hbm, ⟨0, _⟩ => ⟨S4x3x2048x7168, .fp8e4m3⟩
  | .hbm, ⟨1, _⟩ => ⟨S4x3x2048x224, .f32⟩
  | .hbm, ⟨2, _⟩ => ⟨S7168, .f32⟩
  | .hbm, ⟨3, _⟩ => ⟨S3x2048x7168, .bf16⟩
  | .hbm, ⟨4, _⟩ => ⟨S7168, .f32⟩
  | .hbm, ⟨5, _⟩ => ⟨S4x6144x7168, .fp8e4m3⟩
  | .hbm, ⟨6, _⟩ => ⟨S4x6144x224, .f32⟩
  | .hbm, ⟨7, _⟩ => ⟨S6144x7168, .bf16⟩
  | .hbm, ⟨8, _⟩ => ⟨S1x7168, .f32⟩
  | .hbm, ⟨9, _⟩ => ⟨S1x7168, .f32⟩
  | .hbm, ⟨10, _⟩ => ⟨S6144x7168, .bf16⟩
  | .hbm, ⟨11, _⟩ => ⟨S6144x7168, .fp8e4m3⟩
  | .hbm, ⟨12, _⟩ => ⟨S6144x224, .f32⟩
  | .hbm, ⟨13, _⟩ => ⟨S3x2048x7168, .bf16⟩
  | .hbm, ⟨14, _⟩ => ⟨S3x2048x7168, .fp8e4m3⟩
  | .hbm, ⟨15, _⟩ => ⟨S3x2048x224, .f32⟩
  | .local _ .vmem, ⟨0, _⟩ => ⟨S4x128x7168, .fp8e4m3⟩
  | .local _ .vmem, ⟨1, _⟩ => ⟨S4x128x7168, .fp8e4m3⟩
  | .local _ .vmem, ⟨2, _⟩ => ⟨S4x128x224, .f32⟩
  | .local _ .vmem, ⟨3, _⟩ => ⟨S4x128x224, .f32⟩
  | .local _ .vmem, ⟨4, _⟩ => ⟨S1x7168, .f32⟩
  | .local _ .vmem, ⟨5, _⟩ => ⟨S128x7168, .bf16⟩
  | .local _ .vmem, ⟨6, _⟩ => ⟨S128x7168, .bf16⟩
  | .local _ .vmem, ⟨7, _⟩ => ⟨S1x7168, .f32⟩
  | .local _ .vmem, ⟨8, _⟩ => ⟨S128x7168, .bf16⟩
  | .local _ .vmem, ⟨9, _⟩ => ⟨S128x7168, .bf16⟩
  | .local _ .vmem, ⟨10, _⟩ => ⟨S128x7168, .fp8e4m3⟩
  | .local _ .vmem, ⟨11, _⟩ => ⟨S128x7168, .fp8e4m3⟩
  | .local _ .vmem, ⟨12, _⟩ => ⟨S128x224, .f32⟩
  | .local _ .vmem, ⟨13, _⟩ => ⟨S128x224, .f32⟩
  | .local _ .vmem, ⟨14, _⟩ => ⟨S32x7168, .f32⟩
  | _, _ => ⟨S4x3x2048x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  v1
def k0_off1 (k0_t1 : Fin k0_t1_loop.trips) : Fin 3 → Nat :=
  let c0 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v53 : Index := Scalar.indexCast v2
  let c0_15 : Index := 0#32
  ![0, v53.toNat, 0]
def k0_off2 (k0_t1 : Fin k0_t1_loop.trips) : Fin 3 → Nat :=
  let c1 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v70 : Index := Scalar.indexCast v2
  let c0_16 : Index := 0#32
  ![1, v70.toNat, 0]
def k0_off3 (k0_t1 : Fin k0_t1_loop.trips) : Fin 3 → Nat :=
  let c2 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v87 : Index := Scalar.indexCast v2
  let c0_18 : Index := 0#32
  ![2, v87.toNat, 0]
def k0_off4 (k0_t1 : Fin k0_t1_loop.trips) : Fin 3 → Nat :=
  let c3 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v104 : Index := Scalar.indexCast v2
  let c0_20 : Index := 0#32
  ![3, v104.toNat, 0]
def k0_off5 (k0_t1 : Fin k0_t1_loop.trips) : Fin 3 → Nat :=
  let c0_31 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v131 : Index := Scalar.indexCast v2
  let c0_32 : Index := 0#32
  ![0, v131.toNat, 0]
def k0_off6 (k0_t1 : Fin k0_t1_loop.trips) : Fin 3 → Nat :=
  let c1_36 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v163 : Index := Scalar.indexCast v2
  let c0_37 : Index := 0#32
  ![1, v163.toNat, 0]
def k0_off7 (k0_t1 : Fin k0_t1_loop.trips) : Fin 3 → Nat :=
  let c2_42 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v199 : Index := Scalar.indexCast v2
  let c0_43 : Index := 0#32
  ![2, v199.toNat, 0]
def k0_off8 (k0_t1 : Fin k0_t1_loop.trips) : Fin 3 → Nat :=
  let c3_48 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v235 : Index := Scalar.indexCast v2
  let c0_49 : Index := 0#32
  ![3, v235.toNat, 0]
def k0_off9 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v271 : Index := Scalar.indexCast v2
  let c0_54 : Index := 0#32
  ![v271.toNat, 0]
def k0_off10 (k0_t1 : Fin k0_t1_loop.trips) : Fin 3 → Nat :=
  let c0_62 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v314 : Index := Scalar.indexCast v2
  let c128_63 : Index := 128#32
  ![0, v314.toNat, 128]
def k0_off11 (k0_t1 : Fin k0_t1_loop.trips) : Fin 3 → Nat :=
  let c1_68 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v346 : Index := Scalar.indexCast v2
  let c128_69 : Index := 128#32
  ![1, v346.toNat, 128]
def k0_off12 (k0_t1 : Fin k0_t1_loop.trips) : Fin 3 → Nat :=
  let c2_74 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v382 : Index := Scalar.indexCast v2
  let c128_75 : Index := 128#32
  ![2, v382.toNat, 128]
def k0_off13 (k0_t1 : Fin k0_t1_loop.trips) : Fin 3 → Nat :=
  let c3_80 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v418 : Index := Scalar.indexCast v2
  let c128_81 : Index := 128#32
  ![3, v418.toNat, 128]
def k0_off14 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v454 : Index := Scalar.indexCast v2
  let c128_86 : Index := 128#32
  ![v454.toNat, 128]
def k0_off15 (k0_t1 : Fin k0_t1_loop.trips) : Fin 3 → Nat :=
  let c0_93 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v497 : Index := Scalar.indexCast v2
  let c256_94 : Index := 256#32
  ![0, v497.toNat, 256]
def k0_off16 (k0_t1 : Fin k0_t1_loop.trips) : Fin 3 → Nat :=
  let c1_99 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v529 : Index := Scalar.indexCast v2
  let c256_100 : Index := 256#32
  ![1, v529.toNat, 256]
def k0_off17 (k0_t1 : Fin k0_t1_loop.trips) : Fin 3 → Nat :=
  let c2_105 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v565 : Index := Scalar.indexCast v2
  let c256_106 : Index := 256#32
  ![2, v565.toNat, 256]
def k0_off18 (k0_t1 : Fin k0_t1_loop.trips) : Fin 3 → Nat :=
  let c3_111 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v601 : Index := Scalar.indexCast v2
  let c256_112 : Index := 256#32
  ![3, v601.toNat, 256]
def k0_off19 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v637 : Index := Scalar.indexCast v2
  let c256_117 : Index := 256#32
  ![v637.toNat, 256]
def k0_off20 (k0_t1 : Fin k0_t1_loop.trips) : Fin 3 → Nat :=
  let c0_124 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v680 : Index := Scalar.indexCast v2
  let c384_125 : Index := 384#32
  ![0, v680.toNat, 384]
def k0_off21 (k0_t1 : Fin k0_t1_loop.trips) : Fin 3 → Nat :=
  let c1_130 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v712 : Index := Scalar.indexCast v2
  let c384_131 : Index := 384#32
  ![1, v712.toNat, 384]
def k0_off22 (k0_t1 : Fin k0_t1_loop.trips) : Fin 3 → Nat :=
  let c2_136 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v748 : Index := Scalar.indexCast v2
  let c384_137 : Index := 384#32
  ![2, v748.toNat, 384]
def k0_off23 (k0_t1 : Fin k0_t1_loop.trips) : Fin 3 → Nat :=
  let c3_142 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v784 : Index := Scalar.indexCast v2
  let c384_143 : Index := 384#32
  ![3, v784.toNat, 384]
def k0_off24 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v820 : Index := Scalar.indexCast v2
  let c384_148 : Index := 384#32
  ![v820.toNat, 384]
def k0_off25 (k0_t1 : Fin k0_t1_loop.trips) : Fin 3 → Nat :=
  let c0_155 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v863 : Index := Scalar.indexCast v2
  let c512_156 : Index := 512#32
  ![0, v863.toNat, 512]
def k0_off26 (k0_t1 : Fin k0_t1_loop.trips) : Fin 3 → Nat :=
  let c1_161 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v895 : Index := Scalar.indexCast v2
  let c512_162 : Index := 512#32
  ![1, v895.toNat, 512]
def k0_off27 (k0_t1 : Fin k0_t1_loop.trips) : Fin 3 → Nat :=
  let c2_167 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v931 : Index := Scalar.indexCast v2
  let c512_168 : Index := 512#32
  ![2, v931.toNat, 512]
def k0_off28 (k0_t1 : Fin k0_t1_loop.trips) : Fin 3 → Nat :=
  let c3_173 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v967 : Index := Scalar.indexCast v2
  let c512_174 : Index := 512#32
  ![3, v967.toNat, 512]
def k0_off29 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1003 : Index := Scalar.indexCast v2
  let c512_179 : Index := 512#32
  ![v1003.toNat, 512]
def k0_off30 (k0_t1 : Fin k0_t1_loop.trips) : Fin 3 → Nat :=
  let c0_186 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1046 : Index := Scalar.indexCast v2
  let c640_187 : Index := 640#32
  ![0, v1046.toNat, 640]
def k0_off31 (k0_t1 : Fin k0_t1_loop.trips) : Fin 3 → Nat :=
  let c1_192 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1078 : Index := Scalar.indexCast v2
  let c640_193 : Index := 640#32
  ![1, v1078.toNat, 640]
def k0_off32 (k0_t1 : Fin k0_t1_loop.trips) : Fin 3 → Nat :=
  let c2_198 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1114 : Index := Scalar.indexCast v2
  let c640_199 : Index := 640#32
  ![2, v1114.toNat, 640]
def k0_off33 (k0_t1 : Fin k0_t1_loop.trips) : Fin 3 → Nat :=
  let c3_204 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1150 : Index := Scalar.indexCast v2
  let c640_205 : Index := 640#32
  ![3, v1150.toNat, 640]
def k0_off34 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1186 : Index := Scalar.indexCast v2
  let c640_210 : Index := 640#32
  ![v1186.toNat, 640]
def k0_off35 (k0_t1 : Fin k0_t1_loop.trips) : Fin 3 → Nat :=
  let c0_217 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1229 : Index := Scalar.indexCast v2
  let c768_218 : Index := 768#32
  ![0, v1229.toNat, 768]
def k0_off36 (k0_t1 : Fin k0_t1_loop.trips) : Fin 3 → Nat :=
  let c1_223 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1261 : Index := Scalar.indexCast v2
  let c768_224 : Index := 768#32
  ![1, v1261.toNat, 768]
def k0_off37 (k0_t1 : Fin k0_t1_loop.trips) : Fin 3 → Nat :=
  let c2_229 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1297 : Index := Scalar.indexCast v2
  let c768_230 : Index := 768#32
  ![2, v1297.toNat, 768]
def k0_off38 (k0_t1 : Fin k0_t1_loop.trips) : Fin 3 → Nat :=
  let c3_235 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1333 : Index := Scalar.indexCast v2
  let c768_236 : Index := 768#32
  ![3, v1333.toNat, 768]
def k0_off39 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1369 : Index := Scalar.indexCast v2
  let c768_241 : Index := 768#32
  ![v1369.toNat, 768]
def k0_off40 (k0_t1 : Fin k0_t1_loop.trips) : Fin 3 → Nat :=
  let c0_248 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1412 : Index := Scalar.indexCast v2
  let c896_249 : Index := 896#32
  ![0, v1412.toNat, 896]
def k0_off41 (k0_t1 : Fin k0_t1_loop.trips) : Fin 3 → Nat :=
  let c1_254 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1444 : Index := Scalar.indexCast v2
  let c896_255 : Index := 896#32
  ![1, v1444.toNat, 896]
def k0_off42 (k0_t1 : Fin k0_t1_loop.trips) : Fin 3 → Nat :=
  let c2_260 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1480 : Index := Scalar.indexCast v2
  let c896_261 : Index := 896#32
  ![2, v1480.toNat, 896]
def k0_off43 (k0_t1 : Fin k0_t1_loop.trips) : Fin 3 → Nat :=
  let c3_266 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1516 : Index := Scalar.indexCast v2
  let c896_267 : Index := 896#32
  ![3, v1516.toNat, 896]
def k0_off44 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1552 : Index := Scalar.indexCast v2
  let c896_272 : Index := 896#32
  ![v1552.toNat, 896]
def k0_off45 (k0_t1 : Fin k0_t1_loop.trips) : Fin 3 → Nat :=
  let c0_280 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1595 : Index := Scalar.indexCast v2
  let c1024_281 : Index := 1024#32
  ![0, v1595.toNat, 1024]
def k0_off46 (k0_t1 : Fin k0_t1_loop.trips) : Fin 3 → Nat :=
  let c1_286 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1627 : Index := Scalar.indexCast v2
  let c1024_287 : Index := 1024#32
  ![1, v1627.toNat, 1024]
def k0_off47 (k0_t1 : Fin k0_t1_loop.trips) : Fin 3 → Nat :=
  let c2_292 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1663 : Index := Scalar.indexCast v2
  let c1024_293 : Index := 1024#32
  ![2, v1663.toNat, 1024]
def k0_off48 (k0_t1 : Fin k0_t1_loop.trips) : Fin 3 → Nat :=
  let c3_298 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1699 : Index := Scalar.indexCast v2
  let c1024_299 : Index := 1024#32
  ![3, v1699.toNat, 1024]
def k0_off49 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1735 : Index := Scalar.indexCast v2
  let c1024_304 : Index := 1024#32
  ![v1735.toNat, 1024]
def k0_off50 (k0_t1 : Fin k0_t1_loop.trips) : Fin 3 → Nat :=
  let c0_311 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1778 : Index := Scalar.indexCast v2
  let c1152_312 : Index := 1152#32
  ![0, v1778.toNat, 1152]
def k0_off51 (k0_t1 : Fin k0_t1_loop.trips) : Fin 3 → Nat :=
  let c1_317 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1810 : Index := Scalar.indexCast v2
  let c1152_318 : Index := 1152#32
  ![1, v1810.toNat, 1152]
def k0_off52 (k0_t1 : Fin k0_t1_loop.trips) : Fin 3 → Nat :=
  let c2_323 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1846 : Index := Scalar.indexCast v2
  let c1152_324 : Index := 1152#32
  ![2, v1846.toNat, 1152]
def k0_off53 (k0_t1 : Fin k0_t1_loop.trips) : Fin 3 → Nat :=
  let c3_329 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1882 : Index := Scalar.indexCast v2
  let c1152_330 : Index := 1152#32
  ![3, v1882.toNat, 1152]
def k0_off54 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1918 : Index := Scalar.indexCast v2
  let c1152_335 : Index := 1152#32
  ![v1918.toNat, 1152]
def k0_off55 (k0_t1 : Fin k0_t1_loop.trips) : Fin 3 → Nat :=
  let c0_342 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1961 : Index := Scalar.indexCast v2
  let c1280_343 : Index := 1280#32
  ![0, v1961.toNat, 1280]
def k0_off56 (k0_t1 : Fin k0_t1_loop.trips) : Fin 3 → Nat :=
  let c1_348 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v1993 : Index := Scalar.indexCast v2
  let c1280_349 : Index := 1280#32
  ![1, v1993.toNat, 1280]
def k0_off57 (k0_t1 : Fin k0_t1_loop.trips) : Fin 3 → Nat :=
  let c2_354 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2029 : Index := Scalar.indexCast v2
  let c1280_355 : Index := 1280#32
  ![2, v2029.toNat, 1280]
def k0_off58 (k0_t1 : Fin k0_t1_loop.trips) : Fin 3 → Nat :=
  let c3_360 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2065 : Index := Scalar.indexCast v2
  let c1280_361 : Index := 1280#32
  ![3, v2065.toNat, 1280]
def k0_off59 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2101 : Index := Scalar.indexCast v2
  let c1280_366 : Index := 1280#32
  ![v2101.toNat, 1280]
def k0_off60 (k0_t1 : Fin k0_t1_loop.trips) : Fin 3 → Nat :=
  let c0_373 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2144 : Index := Scalar.indexCast v2
  let c1408_374 : Index := 1408#32
  ![0, v2144.toNat, 1408]
def k0_off61 (k0_t1 : Fin k0_t1_loop.trips) : Fin 3 → Nat :=
  let c1_379 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2176 : Index := Scalar.indexCast v2
  let c1408_380 : Index := 1408#32
  ![1, v2176.toNat, 1408]
def k0_off62 (k0_t1 : Fin k0_t1_loop.trips) : Fin 3 → Nat :=
  let c2_385 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2212 : Index := Scalar.indexCast v2
  let c1408_386 : Index := 1408#32
  ![2, v2212.toNat, 1408]
def k0_off63 (k0_t1 : Fin k0_t1_loop.trips) : Fin 3 → Nat :=
  let c3_391 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2248 : Index := Scalar.indexCast v2
  let c1408_392 : Index := 1408#32
  ![3, v2248.toNat, 1408]
def k0_off64 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2284 : Index := Scalar.indexCast v2
  let c1408_397 : Index := 1408#32
  ![v2284.toNat, 1408]
def k0_off65 (k0_t1 : Fin k0_t1_loop.trips) : Fin 3 → Nat :=
  let c0_404 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2327 : Index := Scalar.indexCast v2
  let c1536_405 : Index := 1536#32
  ![0, v2327.toNat, 1536]
def k0_off66 (k0_t1 : Fin k0_t1_loop.trips) : Fin 3 → Nat :=
  let c1_410 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2359 : Index := Scalar.indexCast v2
  let c1536_411 : Index := 1536#32
  ![1, v2359.toNat, 1536]
def k0_off67 (k0_t1 : Fin k0_t1_loop.trips) : Fin 3 → Nat :=
  let c2_416 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2395 : Index := Scalar.indexCast v2
  let c1536_417 : Index := 1536#32
  ![2, v2395.toNat, 1536]
def k0_off68 (k0_t1 : Fin k0_t1_loop.trips) : Fin 3 → Nat :=
  let c3_422 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2431 : Index := Scalar.indexCast v2
  let c1536_423 : Index := 1536#32
  ![3, v2431.toNat, 1536]
def k0_off69 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2467 : Index := Scalar.indexCast v2
  let c1536_428 : Index := 1536#32
  ![v2467.toNat, 1536]
def k0_off70 (k0_t1 : Fin k0_t1_loop.trips) : Fin 3 → Nat :=
  let c0_435 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2510 : Index := Scalar.indexCast v2
  let c1664_436 : Index := 1664#32
  ![0, v2510.toNat, 1664]
def k0_off71 (k0_t1 : Fin k0_t1_loop.trips) : Fin 3 → Nat :=
  let c1_441 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2542 : Index := Scalar.indexCast v2
  let c1664_442 : Index := 1664#32
  ![1, v2542.toNat, 1664]
def k0_off72 (k0_t1 : Fin k0_t1_loop.trips) : Fin 3 → Nat :=
  let c2_447 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2578 : Index := Scalar.indexCast v2
  let c1664_448 : Index := 1664#32
  ![2, v2578.toNat, 1664]
def k0_off73 (k0_t1 : Fin k0_t1_loop.trips) : Fin 3 → Nat :=
  let c3_453 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2614 : Index := Scalar.indexCast v2
  let c1664_454 : Index := 1664#32
  ![3, v2614.toNat, 1664]
def k0_off74 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2650 : Index := Scalar.indexCast v2
  let c1664_459 : Index := 1664#32
  ![v2650.toNat, 1664]
def k0_off75 (k0_t1 : Fin k0_t1_loop.trips) : Fin 3 → Nat :=
  let c0_466 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2693 : Index := Scalar.indexCast v2
  let c1792_467 : Index := 1792#32
  ![0, v2693.toNat, 1792]
def k0_off76 (k0_t1 : Fin k0_t1_loop.trips) : Fin 3 → Nat :=
  let c1_472 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2725 : Index := Scalar.indexCast v2
  let c1792_473 : Index := 1792#32
  ![1, v2725.toNat, 1792]
def k0_off77 (k0_t1 : Fin k0_t1_loop.trips) : Fin 3 → Nat :=
  let c2_478 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2761 : Index := Scalar.indexCast v2
  let c1792_479 : Index := 1792#32
  ![2, v2761.toNat, 1792]
def k0_off78 (k0_t1 : Fin k0_t1_loop.trips) : Fin 3 → Nat :=
  let c3_484 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2797 : Index := Scalar.indexCast v2
  let c1792_485 : Index := 1792#32
  ![3, v2797.toNat, 1792]
def k0_off79 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2833 : Index := Scalar.indexCast v2
  let c1792_490 : Index := 1792#32
  ![v2833.toNat, 1792]
def k0_off80 (k0_t1 : Fin k0_t1_loop.trips) : Fin 3 → Nat :=
  let c0_497 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2876 : Index := Scalar.indexCast v2
  let c1920_498 : Index := 1920#32
  ![0, v2876.toNat, 1920]
def k0_off81 (k0_t1 : Fin k0_t1_loop.trips) : Fin 3 → Nat :=
  let c1_503 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2908 : Index := Scalar.indexCast v2
  let c1920_504 : Index := 1920#32
  ![1, v2908.toNat, 1920]
def k0_off82 (k0_t1 : Fin k0_t1_loop.trips) : Fin 3 → Nat :=
  let c2_509 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2944 : Index := Scalar.indexCast v2
  let c1920_510 : Index := 1920#32
  ![2, v2944.toNat, 1920]
def k0_off83 (k0_t1 : Fin k0_t1_loop.trips) : Fin 3 → Nat :=
  let c3_515 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v2980 : Index := Scalar.indexCast v2
  let c1920_516 : Index := 1920#32
  ![3, v2980.toNat, 1920]
def k0_off84 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3016 : Index := Scalar.indexCast v2
  let c1920_521 : Index := 1920#32
  ![v3016.toNat, 1920]
def k0_off85 (k0_t1 : Fin k0_t1_loop.trips) : Fin 3 → Nat :=
  let c0_528 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3059 : Index := Scalar.indexCast v2
  let c2048_529 : Index := 2048#32
  ![0, v3059.toNat, 2048]
def k0_off86 (k0_t1 : Fin k0_t1_loop.trips) : Fin 3 → Nat :=
  let c1_534 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3091 : Index := Scalar.indexCast v2
  let c2048_535 : Index := 2048#32
  ![1, v3091.toNat, 2048]
def k0_off87 (k0_t1 : Fin k0_t1_loop.trips) : Fin 3 → Nat :=
  let c2_540 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3127 : Index := Scalar.indexCast v2
  let c2048_541 : Index := 2048#32
  ![2, v3127.toNat, 2048]
def k0_off88 (k0_t1 : Fin k0_t1_loop.trips) : Fin 3 → Nat :=
  let c3_546 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3163 : Index := Scalar.indexCast v2
  let c2048_547 : Index := 2048#32
  ![3, v3163.toNat, 2048]
def k0_off89 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3199 : Index := Scalar.indexCast v2
  let c2048_552 : Index := 2048#32
  ![v3199.toNat, 2048]
def k0_off90 (k0_t1 : Fin k0_t1_loop.trips) : Fin 3 → Nat :=
  let c0_559 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3242 : Index := Scalar.indexCast v2
  let c2176_560 : Index := 2176#32
  ![0, v3242.toNat, 2176]
def k0_off91 (k0_t1 : Fin k0_t1_loop.trips) : Fin 3 → Nat :=
  let c1_565 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3274 : Index := Scalar.indexCast v2
  let c2176_566 : Index := 2176#32
  ![1, v3274.toNat, 2176]
def k0_off92 (k0_t1 : Fin k0_t1_loop.trips) : Fin 3 → Nat :=
  let c2_571 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3310 : Index := Scalar.indexCast v2
  let c2176_572 : Index := 2176#32
  ![2, v3310.toNat, 2176]
def k0_off93 (k0_t1 : Fin k0_t1_loop.trips) : Fin 3 → Nat :=
  let c3_577 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3346 : Index := Scalar.indexCast v2
  let c2176_578 : Index := 2176#32
  ![3, v3346.toNat, 2176]
def k0_off94 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3382 : Index := Scalar.indexCast v2
  let c2176_583 : Index := 2176#32
  ![v3382.toNat, 2176]
def k0_off95 (k0_t1 : Fin k0_t1_loop.trips) : Fin 3 → Nat :=
  let c0_590 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3425 : Index := Scalar.indexCast v2
  let c2304_591 : Index := 2304#32
  ![0, v3425.toNat, 2304]
def k0_off96 (k0_t1 : Fin k0_t1_loop.trips) : Fin 3 → Nat :=
  let c1_596 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3457 : Index := Scalar.indexCast v2
  let c2304_597 : Index := 2304#32
  ![1, v3457.toNat, 2304]
def k0_off97 (k0_t1 : Fin k0_t1_loop.trips) : Fin 3 → Nat :=
  let c2_602 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3493 : Index := Scalar.indexCast v2
  let c2304_603 : Index := 2304#32
  ![2, v3493.toNat, 2304]
def k0_off98 (k0_t1 : Fin k0_t1_loop.trips) : Fin 3 → Nat :=
  let c3_608 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3529 : Index := Scalar.indexCast v2
  let c2304_609 : Index := 2304#32
  ![3, v3529.toNat, 2304]
def k0_off99 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3565 : Index := Scalar.indexCast v2
  let c2304_614 : Index := 2304#32
  ![v3565.toNat, 2304]
def k0_off100 (k0_t1 : Fin k0_t1_loop.trips) : Fin 3 → Nat :=
  let c0_621 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3608 : Index := Scalar.indexCast v2
  let c2432_622 : Index := 2432#32
  ![0, v3608.toNat, 2432]
def k0_off101 (k0_t1 : Fin k0_t1_loop.trips) : Fin 3 → Nat :=
  let c1_627 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3640 : Index := Scalar.indexCast v2
  let c2432_628 : Index := 2432#32
  ![1, v3640.toNat, 2432]
def k0_off102 (k0_t1 : Fin k0_t1_loop.trips) : Fin 3 → Nat :=
  let c2_633 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3676 : Index := Scalar.indexCast v2
  let c2432_634 : Index := 2432#32
  ![2, v3676.toNat, 2432]
def k0_off103 (k0_t1 : Fin k0_t1_loop.trips) : Fin 3 → Nat :=
  let c3_639 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3712 : Index := Scalar.indexCast v2
  let c2432_640 : Index := 2432#32
  ![3, v3712.toNat, 2432]
def k0_off104 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3748 : Index := Scalar.indexCast v2
  let c2432_645 : Index := 2432#32
  ![v3748.toNat, 2432]
def k0_off105 (k0_t1 : Fin k0_t1_loop.trips) : Fin 3 → Nat :=
  let c0_652 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3791 : Index := Scalar.indexCast v2
  let c2560_653 : Index := 2560#32
  ![0, v3791.toNat, 2560]
def k0_off106 (k0_t1 : Fin k0_t1_loop.trips) : Fin 3 → Nat :=
  let c1_658 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3823 : Index := Scalar.indexCast v2
  let c2560_659 : Index := 2560#32
  ![1, v3823.toNat, 2560]
def k0_off107 (k0_t1 : Fin k0_t1_loop.trips) : Fin 3 → Nat :=
  let c2_664 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3859 : Index := Scalar.indexCast v2
  let c2560_665 : Index := 2560#32
  ![2, v3859.toNat, 2560]
def k0_off108 (k0_t1 : Fin k0_t1_loop.trips) : Fin 3 → Nat :=
  let c3_670 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3895 : Index := Scalar.indexCast v2
  let c2560_671 : Index := 2560#32
  ![3, v3895.toNat, 2560]
def k0_off109 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3931 : Index := Scalar.indexCast v2
  let c2560_676 : Index := 2560#32
  ![v3931.toNat, 2560]
def k0_off110 (k0_t1 : Fin k0_t1_loop.trips) : Fin 3 → Nat :=
  let c0_683 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3974 : Index := Scalar.indexCast v2
  let c2688_684 : Index := 2688#32
  ![0, v3974.toNat, 2688]
def k0_off111 (k0_t1 : Fin k0_t1_loop.trips) : Fin 3 → Nat :=
  let c1_689 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4006 : Index := Scalar.indexCast v2
  let c2688_690 : Index := 2688#32
  ![1, v4006.toNat, 2688]
def k0_off112 (k0_t1 : Fin k0_t1_loop.trips) : Fin 3 → Nat :=
  let c2_695 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4042 : Index := Scalar.indexCast v2
  let c2688_696 : Index := 2688#32
  ![2, v4042.toNat, 2688]
def k0_off113 (k0_t1 : Fin k0_t1_loop.trips) : Fin 3 → Nat :=
  let c3_701 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4078 : Index := Scalar.indexCast v2
  let c2688_702 : Index := 2688#32
  ![3, v4078.toNat, 2688]
def k0_off114 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4114 : Index := Scalar.indexCast v2
  let c2688_707 : Index := 2688#32
  ![v4114.toNat, 2688]
def k0_off115 (k0_t1 : Fin k0_t1_loop.trips) : Fin 3 → Nat :=
  let c0_714 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4157 : Index := Scalar.indexCast v2
  let c2816_715 : Index := 2816#32
  ![0, v4157.toNat, 2816]
def k0_off116 (k0_t1 : Fin k0_t1_loop.trips) : Fin 3 → Nat :=
  let c1_720 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4189 : Index := Scalar.indexCast v2
  let c2816_721 : Index := 2816#32
  ![1, v4189.toNat, 2816]
def k0_off117 (k0_t1 : Fin k0_t1_loop.trips) : Fin 3 → Nat :=
  let c2_726 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4225 : Index := Scalar.indexCast v2
  let c2816_727 : Index := 2816#32
  ![2, v4225.toNat, 2816]
def k0_off118 (k0_t1 : Fin k0_t1_loop.trips) : Fin 3 → Nat :=
  let c3_732 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4261 : Index := Scalar.indexCast v2
  let c2816_733 : Index := 2816#32
  ![3, v4261.toNat, 2816]
def k0_off119 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4297 : Index := Scalar.indexCast v2
  let c2816_738 : Index := 2816#32
  ![v4297.toNat, 2816]
def k0_off120 (k0_t1 : Fin k0_t1_loop.trips) : Fin 3 → Nat :=
  let c0_745 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4340 : Index := Scalar.indexCast v2
  let c2944_746 : Index := 2944#32
  ![0, v4340.toNat, 2944]
def k0_off121 (k0_t1 : Fin k0_t1_loop.trips) : Fin 3 → Nat :=
  let c1_751 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4372 : Index := Scalar.indexCast v2
  let c2944_752 : Index := 2944#32
  ![1, v4372.toNat, 2944]
def k0_off122 (k0_t1 : Fin k0_t1_loop.trips) : Fin 3 → Nat :=
  let c2_757 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4408 : Index := Scalar.indexCast v2
  let c2944_758 : Index := 2944#32
  ![2, v4408.toNat, 2944]
def k0_off123 (k0_t1 : Fin k0_t1_loop.trips) : Fin 3 → Nat :=
  let c3_763 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4444 : Index := Scalar.indexCast v2
  let c2944_764 : Index := 2944#32
  ![3, v4444.toNat, 2944]
def k0_off124 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4480 : Index := Scalar.indexCast v2
  let c2944_769 : Index := 2944#32
  ![v4480.toNat, 2944]
def k0_off125 (k0_t1 : Fin k0_t1_loop.trips) : Fin 3 → Nat :=
  let c0_776 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4523 : Index := Scalar.indexCast v2
  let c3072_777 : Index := 3072#32
  ![0, v4523.toNat, 3072]
def k0_off126 (k0_t1 : Fin k0_t1_loop.trips) : Fin 3 → Nat :=
  let c1_782 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4555 : Index := Scalar.indexCast v2
  let c3072_783 : Index := 3072#32
  ![1, v4555.toNat, 3072]
def k0_off127 (k0_t1 : Fin k0_t1_loop.trips) : Fin 3 → Nat :=
  let c2_788 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4591 : Index := Scalar.indexCast v2
  let c3072_789 : Index := 3072#32
  ![2, v4591.toNat, 3072]
def k0_off128 (k0_t1 : Fin k0_t1_loop.trips) : Fin 3 → Nat :=
  let c3_794 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4627 : Index := Scalar.indexCast v2
  let c3072_795 : Index := 3072#32
  ![3, v4627.toNat, 3072]
def k0_off129 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4663 : Index := Scalar.indexCast v2
  let c3072_800 : Index := 3072#32
  ![v4663.toNat, 3072]
def k0_off130 (k0_t1 : Fin k0_t1_loop.trips) : Fin 3 → Nat :=
  let c0_807 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4706 : Index := Scalar.indexCast v2
  let c3200_808 : Index := 3200#32
  ![0, v4706.toNat, 3200]
def k0_off131 (k0_t1 : Fin k0_t1_loop.trips) : Fin 3 → Nat :=
  let c1_813 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4738 : Index := Scalar.indexCast v2
  let c3200_814 : Index := 3200#32
  ![1, v4738.toNat, 3200]
def k0_off132 (k0_t1 : Fin k0_t1_loop.trips) : Fin 3 → Nat :=
  let c2_819 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4774 : Index := Scalar.indexCast v2
  let c3200_820 : Index := 3200#32
  ![2, v4774.toNat, 3200]
def k0_off133 (k0_t1 : Fin k0_t1_loop.trips) : Fin 3 → Nat :=
  let c3_825 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4810 : Index := Scalar.indexCast v2
  let c3200_826 : Index := 3200#32
  ![3, v4810.toNat, 3200]
def k0_off134 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4846 : Index := Scalar.indexCast v2
  let c3200_831 : Index := 3200#32
  ![v4846.toNat, 3200]
def k0_off135 (k0_t1 : Fin k0_t1_loop.trips) : Fin 3 → Nat :=
  let c0_838 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4889 : Index := Scalar.indexCast v2
  let c3328_839 : Index := 3328#32
  ![0, v4889.toNat, 3328]
def k0_off136 (k0_t1 : Fin k0_t1_loop.trips) : Fin 3 → Nat :=
  let c1_844 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4921 : Index := Scalar.indexCast v2
  let c3328_845 : Index := 3328#32
  ![1, v4921.toNat, 3328]
def k0_off137 (k0_t1 : Fin k0_t1_loop.trips) : Fin 3 → Nat :=
  let c2_850 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4957 : Index := Scalar.indexCast v2
  let c3328_851 : Index := 3328#32
  ![2, v4957.toNat, 3328]
def k0_off138 (k0_t1 : Fin k0_t1_loop.trips) : Fin 3 → Nat :=
  let c3_856 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v4993 : Index := Scalar.indexCast v2
  let c3328_857 : Index := 3328#32
  ![3, v4993.toNat, 3328]
def k0_off139 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5029 : Index := Scalar.indexCast v2
  let c3328_862 : Index := 3328#32
  ![v5029.toNat, 3328]
def k0_off140 (k0_t1 : Fin k0_t1_loop.trips) : Fin 3 → Nat :=
  let c0_869 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5072 : Index := Scalar.indexCast v2
  let c3456_870 : Index := 3456#32
  ![0, v5072.toNat, 3456]
def k0_off141 (k0_t1 : Fin k0_t1_loop.trips) : Fin 3 → Nat :=
  let c1_875 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5104 : Index := Scalar.indexCast v2
  let c3456_876 : Index := 3456#32
  ![1, v5104.toNat, 3456]
def k0_off142 (k0_t1 : Fin k0_t1_loop.trips) : Fin 3 → Nat :=
  let c2_881 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5140 : Index := Scalar.indexCast v2
  let c3456_882 : Index := 3456#32
  ![2, v5140.toNat, 3456]
def k0_off143 (k0_t1 : Fin k0_t1_loop.trips) : Fin 3 → Nat :=
  let c3_887 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5176 : Index := Scalar.indexCast v2
  let c3456_888 : Index := 3456#32
  ![3, v5176.toNat, 3456]
def k0_off144 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5212 : Index := Scalar.indexCast v2
  let c3456_893 : Index := 3456#32
  ![v5212.toNat, 3456]
def k0_off145 (k0_t1 : Fin k0_t1_loop.trips) : Fin 3 → Nat :=
  let c0_900 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5255 : Index := Scalar.indexCast v2
  let c3584_901 : Index := 3584#32
  ![0, v5255.toNat, 3584]
def k0_off146 (k0_t1 : Fin k0_t1_loop.trips) : Fin 3 → Nat :=
  let c1_906 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5287 : Index := Scalar.indexCast v2
  let c3584_907 : Index := 3584#32
  ![1, v5287.toNat, 3584]
def k0_off147 (k0_t1 : Fin k0_t1_loop.trips) : Fin 3 → Nat :=
  let c2_912 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5323 : Index := Scalar.indexCast v2
  let c3584_913 : Index := 3584#32
  ![2, v5323.toNat, 3584]
def k0_off148 (k0_t1 : Fin k0_t1_loop.trips) : Fin 3 → Nat :=
  let c3_918 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5359 : Index := Scalar.indexCast v2
  let c3584_919 : Index := 3584#32
  ![3, v5359.toNat, 3584]
def k0_off149 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5395 : Index := Scalar.indexCast v2
  let c3584_924 : Index := 3584#32
  ![v5395.toNat, 3584]
def k0_off150 (k0_t1 : Fin k0_t1_loop.trips) : Fin 3 → Nat :=
  let c0_931 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5438 : Index := Scalar.indexCast v2
  let c3712_932 : Index := 3712#32
  ![0, v5438.toNat, 3712]
def k0_off151 (k0_t1 : Fin k0_t1_loop.trips) : Fin 3 → Nat :=
  let c1_937 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5470 : Index := Scalar.indexCast v2
  let c3712_938 : Index := 3712#32
  ![1, v5470.toNat, 3712]
def k0_off152 (k0_t1 : Fin k0_t1_loop.trips) : Fin 3 → Nat :=
  let c2_943 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5506 : Index := Scalar.indexCast v2
  let c3712_944 : Index := 3712#32
  ![2, v5506.toNat, 3712]
def k0_off153 (k0_t1 : Fin k0_t1_loop.trips) : Fin 3 → Nat :=
  let c3_949 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5542 : Index := Scalar.indexCast v2
  let c3712_950 : Index := 3712#32
  ![3, v5542.toNat, 3712]
def k0_off154 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5578 : Index := Scalar.indexCast v2
  let c3712_955 : Index := 3712#32
  ![v5578.toNat, 3712]
def k0_off155 (k0_t1 : Fin k0_t1_loop.trips) : Fin 3 → Nat :=
  let c0_962 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5621 : Index := Scalar.indexCast v2
  let c3840_963 : Index := 3840#32
  ![0, v5621.toNat, 3840]
def k0_off156 (k0_t1 : Fin k0_t1_loop.trips) : Fin 3 → Nat :=
  let c1_968 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5653 : Index := Scalar.indexCast v2
  let c3840_969 : Index := 3840#32
  ![1, v5653.toNat, 3840]
def k0_off157 (k0_t1 : Fin k0_t1_loop.trips) : Fin 3 → Nat :=
  let c2_974 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5689 : Index := Scalar.indexCast v2
  let c3840_975 : Index := 3840#32
  ![2, v5689.toNat, 3840]
def k0_off158 (k0_t1 : Fin k0_t1_loop.trips) : Fin 3 → Nat :=
  let c3_980 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5725 : Index := Scalar.indexCast v2
  let c3840_981 : Index := 3840#32
  ![3, v5725.toNat, 3840]
def k0_off159 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5761 : Index := Scalar.indexCast v2
  let c3840_986 : Index := 3840#32
  ![v5761.toNat, 3840]
def k0_off160 (k0_t1 : Fin k0_t1_loop.trips) : Fin 3 → Nat :=
  let c0_993 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5804 : Index := Scalar.indexCast v2
  let c3968_994 : Index := 3968#32
  ![0, v5804.toNat, 3968]
def k0_off161 (k0_t1 : Fin k0_t1_loop.trips) : Fin 3 → Nat :=
  let c1_999 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5836 : Index := Scalar.indexCast v2
  let c3968_1000 : Index := 3968#32
  ![1, v5836.toNat, 3968]
def k0_off162 (k0_t1 : Fin k0_t1_loop.trips) : Fin 3 → Nat :=
  let c2_1005 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5872 : Index := Scalar.indexCast v2
  let c3968_1006 : Index := 3968#32
  ![2, v5872.toNat, 3968]
def k0_off163 (k0_t1 : Fin k0_t1_loop.trips) : Fin 3 → Nat :=
  let c3_1011 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5908 : Index := Scalar.indexCast v2
  let c3968_1012 : Index := 3968#32
  ![3, v5908.toNat, 3968]
def k0_off164 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5944 : Index := Scalar.indexCast v2
  let c3968_1017 : Index := 3968#32
  ![v5944.toNat, 3968]
def k0_off165 (k0_t1 : Fin k0_t1_loop.trips) : Fin 3 → Nat :=
  let c0_1025 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v5987 : Index := Scalar.indexCast v2
  let c4096_1026 : Index := 4096#32
  ![0, v5987.toNat, 4096]
def k0_off166 (k0_t1 : Fin k0_t1_loop.trips) : Fin 3 → Nat :=
  let c1_1031 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6019 : Index := Scalar.indexCast v2
  let c4096_1032 : Index := 4096#32
  ![1, v6019.toNat, 4096]
def k0_off167 (k0_t1 : Fin k0_t1_loop.trips) : Fin 3 → Nat :=
  let c2_1037 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6055 : Index := Scalar.indexCast v2
  let c4096_1038 : Index := 4096#32
  ![2, v6055.toNat, 4096]
def k0_off168 (k0_t1 : Fin k0_t1_loop.trips) : Fin 3 → Nat :=
  let c3_1043 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6091 : Index := Scalar.indexCast v2
  let c4096_1044 : Index := 4096#32
  ![3, v6091.toNat, 4096]
def k0_off169 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6127 : Index := Scalar.indexCast v2
  let c4096_1049 : Index := 4096#32
  ![v6127.toNat, 4096]
def k0_off170 (k0_t1 : Fin k0_t1_loop.trips) : Fin 3 → Nat :=
  let c0_1057 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6170 : Index := Scalar.indexCast v2
  let c4224_1058 : Index := 4224#32
  ![0, v6170.toNat, 4224]
def k0_off171 (k0_t1 : Fin k0_t1_loop.trips) : Fin 3 → Nat :=
  let c1_1063 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6202 : Index := Scalar.indexCast v2
  let c4224_1064 : Index := 4224#32
  ![1, v6202.toNat, 4224]
def k0_off172 (k0_t1 : Fin k0_t1_loop.trips) : Fin 3 → Nat :=
  let c2_1069 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6238 : Index := Scalar.indexCast v2
  let c4224_1070 : Index := 4224#32
  ![2, v6238.toNat, 4224]
def k0_off173 (k0_t1 : Fin k0_t1_loop.trips) : Fin 3 → Nat :=
  let c3_1075 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6274 : Index := Scalar.indexCast v2
  let c4224_1076 : Index := 4224#32
  ![3, v6274.toNat, 4224]
def k0_off174 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6310 : Index := Scalar.indexCast v2
  let c4224_1081 : Index := 4224#32
  ![v6310.toNat, 4224]
def k0_off175 (k0_t1 : Fin k0_t1_loop.trips) : Fin 3 → Nat :=
  let c0_1089 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6353 : Index := Scalar.indexCast v2
  let c4352_1090 : Index := 4352#32
  ![0, v6353.toNat, 4352]
def k0_off176 (k0_t1 : Fin k0_t1_loop.trips) : Fin 3 → Nat :=
  let c1_1095 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6385 : Index := Scalar.indexCast v2
  let c4352_1096 : Index := 4352#32
  ![1, v6385.toNat, 4352]
def k0_off177 (k0_t1 : Fin k0_t1_loop.trips) : Fin 3 → Nat :=
  let c2_1101 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6421 : Index := Scalar.indexCast v2
  let c4352_1102 : Index := 4352#32
  ![2, v6421.toNat, 4352]
def k0_off178 (k0_t1 : Fin k0_t1_loop.trips) : Fin 3 → Nat :=
  let c3_1107 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6457 : Index := Scalar.indexCast v2
  let c4352_1108 : Index := 4352#32
  ![3, v6457.toNat, 4352]
def k0_off179 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6493 : Index := Scalar.indexCast v2
  let c4352_1113 : Index := 4352#32
  ![v6493.toNat, 4352]
def k0_off180 (k0_t1 : Fin k0_t1_loop.trips) : Fin 3 → Nat :=
  let c0_1121 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6536 : Index := Scalar.indexCast v2
  let c4480_1122 : Index := 4480#32
  ![0, v6536.toNat, 4480]
def k0_off181 (k0_t1 : Fin k0_t1_loop.trips) : Fin 3 → Nat :=
  let c1_1127 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6568 : Index := Scalar.indexCast v2
  let c4480_1128 : Index := 4480#32
  ![1, v6568.toNat, 4480]
def k0_off182 (k0_t1 : Fin k0_t1_loop.trips) : Fin 3 → Nat :=
  let c2_1133 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6604 : Index := Scalar.indexCast v2
  let c4480_1134 : Index := 4480#32
  ![2, v6604.toNat, 4480]
def k0_off183 (k0_t1 : Fin k0_t1_loop.trips) : Fin 3 → Nat :=
  let c3_1139 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6640 : Index := Scalar.indexCast v2
  let c4480_1140 : Index := 4480#32
  ![3, v6640.toNat, 4480]
def k0_off184 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6676 : Index := Scalar.indexCast v2
  let c4480_1145 : Index := 4480#32
  ![v6676.toNat, 4480]
def k0_off185 (k0_t1 : Fin k0_t1_loop.trips) : Fin 3 → Nat :=
  let c0_1153 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6719 : Index := Scalar.indexCast v2
  let c4608_1154 : Index := 4608#32
  ![0, v6719.toNat, 4608]
def k0_off186 (k0_t1 : Fin k0_t1_loop.trips) : Fin 3 → Nat :=
  let c1_1159 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6751 : Index := Scalar.indexCast v2
  let c4608_1160 : Index := 4608#32
  ![1, v6751.toNat, 4608]
def k0_off187 (k0_t1 : Fin k0_t1_loop.trips) : Fin 3 → Nat :=
  let c2_1165 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6787 : Index := Scalar.indexCast v2
  let c4608_1166 : Index := 4608#32
  ![2, v6787.toNat, 4608]
def k0_off188 (k0_t1 : Fin k0_t1_loop.trips) : Fin 3 → Nat :=
  let c3_1171 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6823 : Index := Scalar.indexCast v2
  let c4608_1172 : Index := 4608#32
  ![3, v6823.toNat, 4608]
def k0_off189 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6859 : Index := Scalar.indexCast v2
  let c4608_1177 : Index := 4608#32
  ![v6859.toNat, 4608]
def k0_off190 (k0_t1 : Fin k0_t1_loop.trips) : Fin 3 → Nat :=
  let c0_1185 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6902 : Index := Scalar.indexCast v2
  let c4736_1186 : Index := 4736#32
  ![0, v6902.toNat, 4736]
def k0_off191 (k0_t1 : Fin k0_t1_loop.trips) : Fin 3 → Nat :=
  let c1_1191 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6934 : Index := Scalar.indexCast v2
  let c4736_1192 : Index := 4736#32
  ![1, v6934.toNat, 4736]
def k0_off192 (k0_t1 : Fin k0_t1_loop.trips) : Fin 3 → Nat :=
  let c2_1197 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v6970 : Index := Scalar.indexCast v2
  let c4736_1198 : Index := 4736#32
  ![2, v6970.toNat, 4736]
def k0_off193 (k0_t1 : Fin k0_t1_loop.trips) : Fin 3 → Nat :=
  let c3_1203 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7006 : Index := Scalar.indexCast v2
  let c4736_1204 : Index := 4736#32
  ![3, v7006.toNat, 4736]
def k0_off194 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7042 : Index := Scalar.indexCast v2
  let c4736_1209 : Index := 4736#32
  ![v7042.toNat, 4736]
def k0_off195 (k0_t1 : Fin k0_t1_loop.trips) : Fin 3 → Nat :=
  let c0_1217 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7085 : Index := Scalar.indexCast v2
  let c4864_1218 : Index := 4864#32
  ![0, v7085.toNat, 4864]
def k0_off196 (k0_t1 : Fin k0_t1_loop.trips) : Fin 3 → Nat :=
  let c1_1223 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7117 : Index := Scalar.indexCast v2
  let c4864_1224 : Index := 4864#32
  ![1, v7117.toNat, 4864]
def k0_off197 (k0_t1 : Fin k0_t1_loop.trips) : Fin 3 → Nat :=
  let c2_1229 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7153 : Index := Scalar.indexCast v2
  let c4864_1230 : Index := 4864#32
  ![2, v7153.toNat, 4864]
def k0_off198 (k0_t1 : Fin k0_t1_loop.trips) : Fin 3 → Nat :=
  let c3_1235 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7189 : Index := Scalar.indexCast v2
  let c4864_1236 : Index := 4864#32
  ![3, v7189.toNat, 4864]
def k0_off199 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7225 : Index := Scalar.indexCast v2
  let c4864_1241 : Index := 4864#32
  ![v7225.toNat, 4864]
def k0_off200 (k0_t1 : Fin k0_t1_loop.trips) : Fin 3 → Nat :=
  let c0_1249 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7268 : Index := Scalar.indexCast v2
  let c4992_1250 : Index := 4992#32
  ![0, v7268.toNat, 4992]
def k0_off201 (k0_t1 : Fin k0_t1_loop.trips) : Fin 3 → Nat :=
  let c1_1255 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7300 : Index := Scalar.indexCast v2
  let c4992_1256 : Index := 4992#32
  ![1, v7300.toNat, 4992]
def k0_off202 (k0_t1 : Fin k0_t1_loop.trips) : Fin 3 → Nat :=
  let c2_1261 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7336 : Index := Scalar.indexCast v2
  let c4992_1262 : Index := 4992#32
  ![2, v7336.toNat, 4992]
def k0_off203 (k0_t1 : Fin k0_t1_loop.trips) : Fin 3 → Nat :=
  let c3_1267 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7372 : Index := Scalar.indexCast v2
  let c4992_1268 : Index := 4992#32
  ![3, v7372.toNat, 4992]
def k0_off204 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7408 : Index := Scalar.indexCast v2
  let c4992_1273 : Index := 4992#32
  ![v7408.toNat, 4992]
def k0_off205 (k0_t1 : Fin k0_t1_loop.trips) : Fin 3 → Nat :=
  let c0_1281 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7451 : Index := Scalar.indexCast v2
  let c5120_1282 : Index := 5120#32
  ![0, v7451.toNat, 5120]
def k0_off206 (k0_t1 : Fin k0_t1_loop.trips) : Fin 3 → Nat :=
  let c1_1287 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7483 : Index := Scalar.indexCast v2
  let c5120_1288 : Index := 5120#32
  ![1, v7483.toNat, 5120]
def k0_off207 (k0_t1 : Fin k0_t1_loop.trips) : Fin 3 → Nat :=
  let c2_1293 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7519 : Index := Scalar.indexCast v2
  let c5120_1294 : Index := 5120#32
  ![2, v7519.toNat, 5120]
def k0_off208 (k0_t1 : Fin k0_t1_loop.trips) : Fin 3 → Nat :=
  let c3_1299 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7555 : Index := Scalar.indexCast v2
  let c5120_1300 : Index := 5120#32
  ![3, v7555.toNat, 5120]
def k0_off209 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7591 : Index := Scalar.indexCast v2
  let c5120_1305 : Index := 5120#32
  ![v7591.toNat, 5120]
def k0_off210 (k0_t1 : Fin k0_t1_loop.trips) : Fin 3 → Nat :=
  let c0_1313 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7634 : Index := Scalar.indexCast v2
  let c5248_1314 : Index := 5248#32
  ![0, v7634.toNat, 5248]
def k0_off211 (k0_t1 : Fin k0_t1_loop.trips) : Fin 3 → Nat :=
  let c1_1319 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7666 : Index := Scalar.indexCast v2
  let c5248_1320 : Index := 5248#32
  ![1, v7666.toNat, 5248]
def k0_off212 (k0_t1 : Fin k0_t1_loop.trips) : Fin 3 → Nat :=
  let c2_1325 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7702 : Index := Scalar.indexCast v2
  let c5248_1326 : Index := 5248#32
  ![2, v7702.toNat, 5248]
def k0_off213 (k0_t1 : Fin k0_t1_loop.trips) : Fin 3 → Nat :=
  let c3_1331 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7738 : Index := Scalar.indexCast v2
  let c5248_1332 : Index := 5248#32
  ![3, v7738.toNat, 5248]
def k0_off214 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7774 : Index := Scalar.indexCast v2
  let c5248_1337 : Index := 5248#32
  ![v7774.toNat, 5248]
def k0_off215 (k0_t1 : Fin k0_t1_loop.trips) : Fin 3 → Nat :=
  let c0_1345 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7817 : Index := Scalar.indexCast v2
  let c5376_1346 : Index := 5376#32
  ![0, v7817.toNat, 5376]
def k0_off216 (k0_t1 : Fin k0_t1_loop.trips) : Fin 3 → Nat :=
  let c1_1351 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7849 : Index := Scalar.indexCast v2
  let c5376_1352 : Index := 5376#32
  ![1, v7849.toNat, 5376]
def k0_off217 (k0_t1 : Fin k0_t1_loop.trips) : Fin 3 → Nat :=
  let c2_1357 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7885 : Index := Scalar.indexCast v2
  let c5376_1358 : Index := 5376#32
  ![2, v7885.toNat, 5376]
def k0_off218 (k0_t1 : Fin k0_t1_loop.trips) : Fin 3 → Nat :=
  let c3_1363 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7921 : Index := Scalar.indexCast v2
  let c5376_1364 : Index := 5376#32
  ![3, v7921.toNat, 5376]
def k0_off219 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v7957 : Index := Scalar.indexCast v2
  let c5376_1369 : Index := 5376#32
  ![v7957.toNat, 5376]
def k0_off220 (k0_t1 : Fin k0_t1_loop.trips) : Fin 3 → Nat :=
  let c0_1377 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8000 : Index := Scalar.indexCast v2
  let c5504_1378 : Index := 5504#32
  ![0, v8000.toNat, 5504]
def k0_off221 (k0_t1 : Fin k0_t1_loop.trips) : Fin 3 → Nat :=
  let c1_1383 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8032 : Index := Scalar.indexCast v2
  let c5504_1384 : Index := 5504#32
  ![1, v8032.toNat, 5504]
def k0_off222 (k0_t1 : Fin k0_t1_loop.trips) : Fin 3 → Nat :=
  let c2_1389 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8068 : Index := Scalar.indexCast v2
  let c5504_1390 : Index := 5504#32
  ![2, v8068.toNat, 5504]
def k0_off223 (k0_t1 : Fin k0_t1_loop.trips) : Fin 3 → Nat :=
  let c3_1395 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8104 : Index := Scalar.indexCast v2
  let c5504_1396 : Index := 5504#32
  ![3, v8104.toNat, 5504]
def k0_off224 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8140 : Index := Scalar.indexCast v2
  let c5504_1401 : Index := 5504#32
  ![v8140.toNat, 5504]
def k0_off225 (k0_t1 : Fin k0_t1_loop.trips) : Fin 3 → Nat :=
  let c0_1409 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8183 : Index := Scalar.indexCast v2
  let c5632_1410 : Index := 5632#32
  ![0, v8183.toNat, 5632]
def k0_off226 (k0_t1 : Fin k0_t1_loop.trips) : Fin 3 → Nat :=
  let c1_1415 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8215 : Index := Scalar.indexCast v2
  let c5632_1416 : Index := 5632#32
  ![1, v8215.toNat, 5632]
def k0_off227 (k0_t1 : Fin k0_t1_loop.trips) : Fin 3 → Nat :=
  let c2_1421 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8251 : Index := Scalar.indexCast v2
  let c5632_1422 : Index := 5632#32
  ![2, v8251.toNat, 5632]
def k0_off228 (k0_t1 : Fin k0_t1_loop.trips) : Fin 3 → Nat :=
  let c3_1427 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8287 : Index := Scalar.indexCast v2
  let c5632_1428 : Index := 5632#32
  ![3, v8287.toNat, 5632]
def k0_off229 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8323 : Index := Scalar.indexCast v2
  let c5632_1433 : Index := 5632#32
  ![v8323.toNat, 5632]
def k0_off230 (k0_t1 : Fin k0_t1_loop.trips) : Fin 3 → Nat :=
  let c0_1441 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8366 : Index := Scalar.indexCast v2
  let c5760_1442 : Index := 5760#32
  ![0, v8366.toNat, 5760]
def k0_off231 (k0_t1 : Fin k0_t1_loop.trips) : Fin 3 → Nat :=
  let c1_1447 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8398 : Index := Scalar.indexCast v2
  let c5760_1448 : Index := 5760#32
  ![1, v8398.toNat, 5760]
def k0_off232 (k0_t1 : Fin k0_t1_loop.trips) : Fin 3 → Nat :=
  let c2_1453 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8434 : Index := Scalar.indexCast v2
  let c5760_1454 : Index := 5760#32
  ![2, v8434.toNat, 5760]
def k0_off233 (k0_t1 : Fin k0_t1_loop.trips) : Fin 3 → Nat :=
  let c3_1459 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8470 : Index := Scalar.indexCast v2
  let c5760_1460 : Index := 5760#32
  ![3, v8470.toNat, 5760]
def k0_off234 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8506 : Index := Scalar.indexCast v2
  let c5760_1465 : Index := 5760#32
  ![v8506.toNat, 5760]
def k0_off235 (k0_t1 : Fin k0_t1_loop.trips) : Fin 3 → Nat :=
  let c0_1473 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8549 : Index := Scalar.indexCast v2
  let c5888_1474 : Index := 5888#32
  ![0, v8549.toNat, 5888]
def k0_off236 (k0_t1 : Fin k0_t1_loop.trips) : Fin 3 → Nat :=
  let c1_1479 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8581 : Index := Scalar.indexCast v2
  let c5888_1480 : Index := 5888#32
  ![1, v8581.toNat, 5888]
def k0_off237 (k0_t1 : Fin k0_t1_loop.trips) : Fin 3 → Nat :=
  let c2_1485 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8617 : Index := Scalar.indexCast v2
  let c5888_1486 : Index := 5888#32
  ![2, v8617.toNat, 5888]
def k0_off238 (k0_t1 : Fin k0_t1_loop.trips) : Fin 3 → Nat :=
  let c3_1491 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8653 : Index := Scalar.indexCast v2
  let c5888_1492 : Index := 5888#32
  ![3, v8653.toNat, 5888]
def k0_off239 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8689 : Index := Scalar.indexCast v2
  let c5888_1497 : Index := 5888#32
  ![v8689.toNat, 5888]
def k0_off240 (k0_t1 : Fin k0_t1_loop.trips) : Fin 3 → Nat :=
  let c0_1505 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8732 : Index := Scalar.indexCast v2
  let c6016_1506 : Index := 6016#32
  ![0, v8732.toNat, 6016]
def k0_off241 (k0_t1 : Fin k0_t1_loop.trips) : Fin 3 → Nat :=
  let c1_1511 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8764 : Index := Scalar.indexCast v2
  let c6016_1512 : Index := 6016#32
  ![1, v8764.toNat, 6016]
def k0_off242 (k0_t1 : Fin k0_t1_loop.trips) : Fin 3 → Nat :=
  let c2_1517 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8800 : Index := Scalar.indexCast v2
  let c6016_1518 : Index := 6016#32
  ![2, v8800.toNat, 6016]
def k0_off243 (k0_t1 : Fin k0_t1_loop.trips) : Fin 3 → Nat :=
  let c3_1523 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8836 : Index := Scalar.indexCast v2
  let c6016_1524 : Index := 6016#32
  ![3, v8836.toNat, 6016]
def k0_off244 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8872 : Index := Scalar.indexCast v2
  let c6016_1529 : Index := 6016#32
  ![v8872.toNat, 6016]
def k0_off245 (k0_t1 : Fin k0_t1_loop.trips) : Fin 3 → Nat :=
  let c0_1537 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8915 : Index := Scalar.indexCast v2
  let c6144_1538 : Index := 6144#32
  ![0, v8915.toNat, 6144]
def k0_off246 (k0_t1 : Fin k0_t1_loop.trips) : Fin 3 → Nat :=
  let c1_1543 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8947 : Index := Scalar.indexCast v2
  let c6144_1544 : Index := 6144#32
  ![1, v8947.toNat, 6144]
def k0_off247 (k0_t1 : Fin k0_t1_loop.trips) : Fin 3 → Nat :=
  let c2_1549 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v8983 : Index := Scalar.indexCast v2
  let c6144_1550 : Index := 6144#32
  ![2, v8983.toNat, 6144]
def k0_off248 (k0_t1 : Fin k0_t1_loop.trips) : Fin 3 → Nat :=
  let c3_1555 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9019 : Index := Scalar.indexCast v2
  let c6144_1556 : Index := 6144#32
  ![3, v9019.toNat, 6144]
def k0_off249 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9055 : Index := Scalar.indexCast v2
  let c6144_1561 : Index := 6144#32
  ![v9055.toNat, 6144]
def k0_off250 (k0_t1 : Fin k0_t1_loop.trips) : Fin 3 → Nat :=
  let c0_1569 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9098 : Index := Scalar.indexCast v2
  let c6272_1570 : Index := 6272#32
  ![0, v9098.toNat, 6272]
def k0_off251 (k0_t1 : Fin k0_t1_loop.trips) : Fin 3 → Nat :=
  let c1_1575 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9130 : Index := Scalar.indexCast v2
  let c6272_1576 : Index := 6272#32
  ![1, v9130.toNat, 6272]
def k0_off252 (k0_t1 : Fin k0_t1_loop.trips) : Fin 3 → Nat :=
  let c2_1581 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9166 : Index := Scalar.indexCast v2
  let c6272_1582 : Index := 6272#32
  ![2, v9166.toNat, 6272]
def k0_off253 (k0_t1 : Fin k0_t1_loop.trips) : Fin 3 → Nat :=
  let c3_1587 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9202 : Index := Scalar.indexCast v2
  let c6272_1588 : Index := 6272#32
  ![3, v9202.toNat, 6272]
def k0_off254 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9238 : Index := Scalar.indexCast v2
  let c6272_1593 : Index := 6272#32
  ![v9238.toNat, 6272]
def k0_off255 (k0_t1 : Fin k0_t1_loop.trips) : Fin 3 → Nat :=
  let c0_1601 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9281 : Index := Scalar.indexCast v2
  let c6400_1602 : Index := 6400#32
  ![0, v9281.toNat, 6400]
def k0_off256 (k0_t1 : Fin k0_t1_loop.trips) : Fin 3 → Nat :=
  let c1_1607 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9313 : Index := Scalar.indexCast v2
  let c6400_1608 : Index := 6400#32
  ![1, v9313.toNat, 6400]
def k0_off257 (k0_t1 : Fin k0_t1_loop.trips) : Fin 3 → Nat :=
  let c2_1613 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9349 : Index := Scalar.indexCast v2
  let c6400_1614 : Index := 6400#32
  ![2, v9349.toNat, 6400]
def k0_off258 (k0_t1 : Fin k0_t1_loop.trips) : Fin 3 → Nat :=
  let c3_1619 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9385 : Index := Scalar.indexCast v2
  let c6400_1620 : Index := 6400#32
  ![3, v9385.toNat, 6400]
def k0_off259 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9421 : Index := Scalar.indexCast v2
  let c6400_1625 : Index := 6400#32
  ![v9421.toNat, 6400]
def k0_off260 (k0_t1 : Fin k0_t1_loop.trips) : Fin 3 → Nat :=
  let c0_1633 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9464 : Index := Scalar.indexCast v2
  let c6528_1634 : Index := 6528#32
  ![0, v9464.toNat, 6528]
def k0_off261 (k0_t1 : Fin k0_t1_loop.trips) : Fin 3 → Nat :=
  let c1_1639 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9496 : Index := Scalar.indexCast v2
  let c6528_1640 : Index := 6528#32
  ![1, v9496.toNat, 6528]
def k0_off262 (k0_t1 : Fin k0_t1_loop.trips) : Fin 3 → Nat :=
  let c2_1645 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9532 : Index := Scalar.indexCast v2
  let c6528_1646 : Index := 6528#32
  ![2, v9532.toNat, 6528]
def k0_off263 (k0_t1 : Fin k0_t1_loop.trips) : Fin 3 → Nat :=
  let c3_1651 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9568 : Index := Scalar.indexCast v2
  let c6528_1652 : Index := 6528#32
  ![3, v9568.toNat, 6528]
def k0_off264 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9604 : Index := Scalar.indexCast v2
  let c6528_1657 : Index := 6528#32
  ![v9604.toNat, 6528]
def k0_off265 (k0_t1 : Fin k0_t1_loop.trips) : Fin 3 → Nat :=
  let c0_1665 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9647 : Index := Scalar.indexCast v2
  let c6656_1666 : Index := 6656#32
  ![0, v9647.toNat, 6656]
def k0_off266 (k0_t1 : Fin k0_t1_loop.trips) : Fin 3 → Nat :=
  let c1_1671 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9679 : Index := Scalar.indexCast v2
  let c6656_1672 : Index := 6656#32
  ![1, v9679.toNat, 6656]
def k0_off267 (k0_t1 : Fin k0_t1_loop.trips) : Fin 3 → Nat :=
  let c2_1677 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9715 : Index := Scalar.indexCast v2
  let c6656_1678 : Index := 6656#32
  ![2, v9715.toNat, 6656]
def k0_off268 (k0_t1 : Fin k0_t1_loop.trips) : Fin 3 → Nat :=
  let c3_1683 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9751 : Index := Scalar.indexCast v2
  let c6656_1684 : Index := 6656#32
  ![3, v9751.toNat, 6656]
def k0_off269 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9787 : Index := Scalar.indexCast v2
  let c6656_1689 : Index := 6656#32
  ![v9787.toNat, 6656]
def k0_off270 (k0_t1 : Fin k0_t1_loop.trips) : Fin 3 → Nat :=
  let c0_1697 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9830 : Index := Scalar.indexCast v2
  let c6784_1698 : Index := 6784#32
  ![0, v9830.toNat, 6784]
def k0_off271 (k0_t1 : Fin k0_t1_loop.trips) : Fin 3 → Nat :=
  let c1_1703 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9862 : Index := Scalar.indexCast v2
  let c6784_1704 : Index := 6784#32
  ![1, v9862.toNat, 6784]
def k0_off272 (k0_t1 : Fin k0_t1_loop.trips) : Fin 3 → Nat :=
  let c2_1709 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9898 : Index := Scalar.indexCast v2
  let c6784_1710 : Index := 6784#32
  ![2, v9898.toNat, 6784]
def k0_off273 (k0_t1 : Fin k0_t1_loop.trips) : Fin 3 → Nat :=
  let c3_1715 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9934 : Index := Scalar.indexCast v2
  let c6784_1716 : Index := 6784#32
  ![3, v9934.toNat, 6784]
def k0_off274 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v9970 : Index := Scalar.indexCast v2
  let c6784_1721 : Index := 6784#32
  ![v9970.toNat, 6784]
def k0_off275 (k0_t1 : Fin k0_t1_loop.trips) : Fin 3 → Nat :=
  let c0_1729 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v10013 : Index := Scalar.indexCast v2
  let c6912_1730 : Index := 6912#32
  ![0, v10013.toNat, 6912]
def k0_off276 (k0_t1 : Fin k0_t1_loop.trips) : Fin 3 → Nat :=
  let c1_1735 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v10045 : Index := Scalar.indexCast v2
  let c6912_1736 : Index := 6912#32
  ![1, v10045.toNat, 6912]
def k0_off277 (k0_t1 : Fin k0_t1_loop.trips) : Fin 3 → Nat :=
  let c2_1741 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v10081 : Index := Scalar.indexCast v2
  let c6912_1742 : Index := 6912#32
  ![2, v10081.toNat, 6912]
def k0_off278 (k0_t1 : Fin k0_t1_loop.trips) : Fin 3 → Nat :=
  let c3_1747 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v10117 : Index := Scalar.indexCast v2
  let c6912_1748 : Index := 6912#32
  ![3, v10117.toNat, 6912]
def k0_off279 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v10153 : Index := Scalar.indexCast v2
  let c6912_1753 : Index := 6912#32
  ![v10153.toNat, 6912]
def k0_off280 (k0_t1 : Fin k0_t1_loop.trips) : Fin 3 → Nat :=
  let c0_1761 : Index := 0#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v10196 : Index := Scalar.indexCast v2
  let c7040_1762 : Index := 7040#32
  ![0, v10196.toNat, 7040]
def k0_off281 (k0_t1 : Fin k0_t1_loop.trips) : Fin 3 → Nat :=
  let c1_1767 : Index := 1#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v10228 : Index := Scalar.indexCast v2
  let c7040_1768 : Index := 7040#32
  ![1, v10228.toNat, 7040]
def k0_off282 (k0_t1 : Fin k0_t1_loop.trips) : Fin 3 → Nat :=
  let c2_1773 : Index := 2#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v10264 : Index := Scalar.indexCast v2
  let c7040_1774 : Index := 7040#32
  ![2, v10264.toNat, 7040]
def k0_off283 (k0_t1 : Fin k0_t1_loop.trips) : Fin 3 → Nat :=
  let c3_1779 : Index := 3#32
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v10300 : Index := Scalar.indexCast v2
  let c7040_1780 : Index := 7040#32
  ![3, v10300.toNat, 7040]
def k0_off284 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v10336 : Index := Scalar.indexCast v2
  let c7040_1785 : Index := 7040#32
  ![v10336.toNat, 7040]
def k0_off285 (k0_t1 : Fin k0_t1_loop.trips) (c0_i32_1947 : BitVec 32) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v10969 : BitVec 32 := Scalar.addi v2 c0_i32_1947
  let v10970 : Index := Scalar.indexCast v10969
  let c0_1948 : Index := 0#32
  ![v10970.toNat, 0]
def k0_off286 (k0_t1 : Fin k0_t1_loop.trips) (c0_i32_2088 : BitVec 32) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v11469 : BitVec 32 := Scalar.addi v2 c0_i32_2088
  let v11470 : Index := Scalar.indexCast v11469
  let c128_2089 : Index := 128#32
  ![v11470.toNat, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x3x2048x7168 : Shape := ⟨4, ![4, 3, 2048, 7168]⟩
abbrev S4x3x2048x224 : Shape := ⟨4, ![4, 3, 2048, 224]⟩
abbrev S7168 : Shape := ⟨1, ![7168]⟩
abbrev S3x2048x7168 : Shape := ⟨3, ![3, 2048, 7168]⟩
abbrev S3x2048x224 : Shape := ⟨3, ![3, 2048, 224]⟩
abbrev S4x3x2048x224x32 : Shape := ⟨5, ![4, 3, 2048, 224, 32]⟩
abbrev S4x3x2048x224x1 : Shape := ⟨5, ![4, 3, 2048, 224, 1]⟩
abbrev S3x2048x224x32 : Shape := ⟨4, ![3, 2048, 224, 32]⟩
abbrev S1x1x7168 : Shape := ⟨3, ![1, 1, 7168]⟩
abbrev S3x2048 : Shape := ⟨2, ![3, 2048]⟩
abbrev S3x2048x1 : Shape := ⟨3, ![3, 2048, 1]⟩
abbrev S1x1x1x254 : Shape := ⟨4, ![1, 1, 1, 254]⟩
abbrev S3x2048x224x1 : Shape := ⟨4, ![3, 2048, 224, 1]⟩
abbrev S3x2048x224x254 : Shape := ⟨4, ![3, 2048, 224, 254]⟩

abbrev nBuf : Space → Nat
  | .hbm => 8
  | .vmem => 8
  | .smem => 0
  | _ => 0

abbrev bufTy : (tb : Table) → Fin (tcTables nBuf tb) → BufTy
  | .hbm, ⟨0, _⟩ => ⟨S4x3x2048x7168, .fp8e4m3⟩
  | .hbm, ⟨1, _⟩ => ⟨S4x3x2048x224, .f32⟩
  | .hbm, ⟨2, _⟩ => ⟨S7168, .f32⟩
  | .hbm, ⟨3, _⟩ => ⟨S3x2048x7168, .bf16⟩
  | .hbm, ⟨4, _⟩ => ⟨S7168, .f32⟩
  | .hbm, ⟨5, _⟩ => ⟨S3x2048x7168, .bf16⟩
  | .hbm, ⟨6, _⟩ => ⟨S3x2048x7168, .fp8e4m3⟩
  | .hbm, ⟨7, _⟩ => ⟨S3x2048x224, .f32⟩
  | .local _ .vmem, ⟨0, _⟩ => ⟨S4x3x2048x7168, .fp8e4m3⟩
  | .local _ .vmem, ⟨1, _⟩ => ⟨S4x3x2048x224, .f32⟩
  | .local _ .vmem, ⟨2, _⟩ => ⟨S7168, .f32⟩
  | .local _ .vmem, ⟨3, _⟩ => ⟨S3x2048x7168, .bf16⟩
  | .local _ .vmem, ⟨4, _⟩ => ⟨S7168, .f32⟩
  | .local _ .vmem, ⟨5, _⟩ => ⟨S3x2048x7168, .bf16⟩
  | .local _ .vmem, ⟨6, _⟩ => ⟨S3x2048x7168, .fp8e4m3⟩
  | .local _ .vmem, ⟨7, _⟩ => ⟨S3x2048x224, .f32⟩
  | _, _ => ⟨S4x3x2048x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x3x2048x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x2048x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2048x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2048x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x2048x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x2048x224 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.FrameKernel.lean ====
/- The frame of `proofs.«01_k».proof.Kernel`: the body's run on whole staging memrefs (the loop over the four row chunks
   by the generated invariant), the proof data with the outputs' contents forgotten, the body obligation and the launch.
   The frame kit it stands on is the generated one (Gen/Kernel/Frame.lean). The scratch `arg9` is written before it is read
   within each trip, so the body asks nothing of what it holds. -/
module

public import proofs.«01_k».proof.Proof.Gen.Kernel.Loops
public import proofs.«01_k».proof.Proof.Gen.Kernel.Frame
public import Idealize.ShloMosaic.Lib.Pipeline.FrameBody
public import Idealize.ShloMosaic.Lib.Pipeline.FrameSuffix
public import Idealize.ShloMosaic.Lib.Exec
public import Idealize.ShloMosaic.Lib.Claim
public import Idealize.ShloMosaic.Lib.Ring
public import Idealize.ShloMosaic.Lib.Tactic

@[expose] public section

-- membership in a rectangle of production extents (`View.cover_of_tiled`): the elaborator's structural look
-- recurses once per coordinate of the long axes
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v6, main_v7, main_v8}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S4x128x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x128x224 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x7168 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x7168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7168 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x7168 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x224 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S32x7168 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple: on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S4x128x7168 .fp8e4m3) (harg1 : arg1.IsWhole) (arg2 : Memref sig .tc .vmem S4x128x224 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S128x224 .f32) (harg8 : arg8.IsWhole) (arg9 : Memref sig .tc .vmem S32x7168 .f32) (harg9 : arg9.IsWhole)
    (x0 : Vec F S4x128x7168 .fp8e4m3) (x1 : Vec F S4x128x224 .f32) (x2 : Vec F S1x7168 .f32) (x3 : Vec F S128x7168 .bf16) (x4 : Vec F S1x7168 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_fused_norm_quant i arg1 harg1 arg2 harg2 arg3 harg3 arg4 harg4 arg5 harg5 arg6 harg6 arg7 harg7 arg8 harg8 arg9 harg9) K := by
    intro E K
    simp only [cc0_fused_norm_quant_eq_skeleton]; unfold cc0_fused_norm_quant_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Body

end
-- ==== Proof.Tiles.lean ====
/- One trip of the kernel's loop (32 rows), written once for every tile of 128 lanes. `nr`, `u`, `absU`, `sumSq` are the
   first pass, `groupMax`, `scale`, `factor` the middle, `code` the second pass; each is the printed tile with the tile's
   number as a variable. The arguments are the vectors the trip loads. -/
module

public import proofs.«01_k».proof.Proof.Gen.KernelIdeal.Loops

@[expose] public section

noncomputable section

namespace Cert.KernelIdeal.Tiles

open Cert.KernelIdeal.Gen
open Idealize.ShloMosaic Idealize.ShloMosaic.TcCoe

variable {F : FTy → Type} [FloatOps F]

/-! ## Integer index vectors -/

/-- Floor division of an index vector by a positive constant, as printed. -/
def floorDiv {s : Shape} (x : IVec s 32) (c : BitVec 32) : IVec s 32 :=
  select (andi (cmpi .ne (subi (extui 32 (cmpi .sgt x (broadcast s 0#32)) natLt_1_32) (extui 32 (cmpi .slt x (broadcast s 0#32)) natLt_1_32))
        (broadcast s (Scalar.subi (Scalar.extui (Scalar.cmpi .sgt c 0#32)) (Scalar.extui (Scalar.cmpi .slt c 0#32)))))
      (cmpi .ne (remsi x (broadcast s c)) (broadcast s 0#32)))
    (subi (divsi x (broadcast s c)) (broadcast s 1#32)) (divsi x (broadcast s c))

/-- The lane number, over 8 and over 16 rows. -/
def lane8 : IVec S8x128 32 := iota .tc S8x128 32 [1] iota_S8x128_d1_w32
def lane16 : IVec S16x128 32 := iota .tc S16x128 32 [1] iota_S16x128_d1_w32

/-- A negative index counts from the end (never the case here). -/
def wrap {s : Shape} (v : IVec s 32) : IVec s 32 :=
  select (cmpi .slt v (broadcast s 0#32)) (addi v (broadcast s 128#32)) v

/-- A gather along the lanes. -/
def gat8 (x : FVec F S8x128 .f32) (v : IVec S8x128 32) : FVec F S8x128 .f32 :=
  dynamicGather 1 x (shapeCast S8x128 (shapeCast S8x128x1 (wrap v) shapeCasts_S8x128_S8x128x1) shapeCasts_S8x128x1_S8x128)
def gat16 (x : FVec F S16x128 .f32) (v : IVec S16x128 32) : FVec F S16x128 .f32 :=
  dynamicGather 1 x (shapeCast S16x128 (shapeCast S16x128x1 (wrap v) shapeCasts_S16x128_S16x128x1) shapeCasts_S16x128x1_S16x128)

/-! ## Slices of rows -/

def sl16 {α : Type} (kk : ℕ) (x : S32x128.Idx → α) : S16x128.Idx → α :=
  match kk with
  | 0 => extractStridedSlice S16x128 ![0, 0] x slices_S32x128_o0_0_S16x128
  | _ => extractStridedSlice S16x128 ![16, 0] x slices_S32x128_o16_0_S16x128

def slq {α : Type} (q : ℕ) (x : S16x128.Idx → α) : S8x128.Idx → α :=
  match q with
  | 0 => extractStridedSlice S8x128 ![0, 0] x slices_S16x128_o0_0_S8x128
  | _ => extractStridedSlice S8x128 ![8, 0] x slices_S16x128_o8_0_S8x128

def sl8 {α : Type} (i : ℕ) (x : S32x128.Idx → α) : S8x128.Idx → α :=
  match i with
  | 0 => extractStridedSlice S8x128 ![0, 0] x slices_S32x128_o0_0_S8x128
  | 1 => extractStridedSlice S8x128 ![8, 0] x slices_S32x128_o8_0_S8x128
  | 2 => extractStridedSlice S8x128 ![16, 0] x slices_S32x128_o16_0_S8x128
  | _ => extractStridedSlice S8x128 ![24, 0] x slices_S32x128_o24_0_S8x128

/-! ## The first pass -/

section First
variable (P : ℕ → ℕ → Vec F S1x32x128 .fp8e4m3) (S : ℕ → Vec F S1x32x224 .f32) (B : ℕ → Vec F S1x128 .f32)
  (X : ℕ → Vec F S32x128 .bf16) (G : ℕ → Vec F S1x128 .f32)

/-- Half `h` of shard `p`'s scales: groups 0–127, or 128–223 and zeros. -/
def half (p h : ℕ) : FVec F S32x128 .f32 :=
  match h with
  | 0 => extractStridedSlice S32x128 ![0, 0] (shapeCast S32x224 (S p) shapeCasts_S1x32x224_S32x224) slices_S32x224_o0_0_S32x128
  | _ => concatenate S32x128 1 [⟨S32x96, extractStridedSlice S32x96 ![0, 128] (shapeCast S32x224 (S p) shapeCasts_S1x32x224_S32x224) slices_S32x224_o0_128_S32x96⟩,
      ⟨S32x32, broadcast S32x32 (Scalar.ofBits .f32 0x00000000#32)⟩] concatenates_S32x96_S32x32_S32x128_d1

/-- Sixteen rows of it, rounded to bf16. -/
def packed (p h kk : ℕ) : FVec F S16x128 .f32 :=
  extf .f32 (sl16 kk (truncf .bf16 (half S p h) bitsLt_bf16_f32) : FVec F S16x128 .bf16) bitsLt_bf16_f32

/-- The group of each lane of tile `32 h + jj`, within its half. -/
def idx16 (jj : ℕ) : IVec S16x128 32 := addi (floorDiv lane16 32#32) (broadcast S16x128 (BitVec.ofNat 32 (4 * jj)))

/-- Shard `p`'s codes times their scales: sixteen rows of tile `j`. -/
def deq (p j kk : ℕ) : FVec F S16x128 .f32 :=
  extf .f32 (mulf (sl16 kk (extf .bf16 (shapeCast S32x128 (P p j) shapeCasts_S1x32x128_S32x128) bitsLt_fp8e4m3_bf16) : FVec F S16x128 .bf16)
    (truncf .bf16 (gat16 (packed S p (j / 32) kk) (idx16 (j % 32))) bitsLt_bf16_f32)) bitsLt_bf16_f32

/-- The sum over the shards, eight rows of it. -/
def acc (j i : ℕ) : FVec F S8x128 .f32 :=
  addf (addf (addf (slq (i % 2) (deq P S 0 j (i / 2)) : FVec F S8x128 .f32) (slq (i % 2) (deq P S 1 j (i / 2)) : FVec F S8x128 .f32))
    (slq (i % 2) (deq P S 2 j (i / 2)) : FVec F S8x128 .f32)) (slq (i % 2) (deq P S 3 j (i / 2)) : FVec F S8x128 .f32)

/-- The new residual. -/
def nr (j : ℕ) : FVec F S32x128 .bf16 :=
  truncf .bf16 (addf (addf (concatenate S32x128 0 [⟨S8x128, acc P S j 0⟩, ⟨S8x128, acc P S j 1⟩, ⟨S8x128, acc P S j 2⟩, ⟨S8x128, acc P S j 3⟩]
        concatenates_S8x128_S8x128_S8x128_S8x128_S32x128_d0)
      (broadcastTo S32x128 (shapeCast S1x128 (B j) shapeCasts_S1x128_S1x128) broadcasts_S1x128_S32x128))
    (extf .f32 (shapeCast S32x128 (X j) shapeCasts_S32x128_S32x128) bitsLt_bf16_f32)) bitsLt_bf16_f32

def res (j : ℕ) : FVec F S32x128 .f32 := extf .f32 (nr P S B X j) bitsLt_bf16_f32

/-- The residual times the gain: what the scratch holds. -/
def u (j : ℕ) : FVec F S32x128 .f32 :=
  mulf (res P S B X j) (broadcastTo S32x128 (shapeCast S1x128 (G j) shapeCasts_S1x128_S1x128) broadcasts_S1x128_S32x128)

/-- Eight rows of its absolute value. -/
def absU (i j : ℕ) : FVec F S8x128 .f32 := absf (sl8 i (u P S B X G j) : FVec F S8x128 .f32)

/-- The squares of the first `n` tiles, added lane by lane. -/
def sumSq (i : ℕ) : ℕ → FVec F S8x128 .f32
  | 0 => broadcast S8x128 (Scalar.ofBits .f32 0x00000000#32)
  | n + 1 => addf (sumSq i n) (mulf (sl8 i (res P S B X n) : FVec F S8x128 .f32) (sl8 i (res P S B X n) : FVec F S8x128 .f32))

end First

/-! ## The middle: the row's norm, the groups' maxima, the scales -/

/-- The reciprocal of the root of the mean square. -/
def invRms (s : FVec F S8x128 .f32) : FVec F S8x1 .f32 :=
  rsqrt (addf (mulf (shapeCast S8x1 (multiReduction .add [1] S8 s 0x00000000#32 reduces_S8x128_S8 (.inl rfl) rfl) shapeCasts_S8_S8x1)
    (broadcast S8x1 (Scalar.ofBits .f32 0x39124925#32))) (broadcast S8x1 (Scalar.ofBits .f32 0x358637BD#32)))

/-- The lane `b` away (exclusive or). -/
def xorPerm (b : BitVec 32) (x : FVec F S8x128 .f32) : FVec F S8x128 .f32 := gat8 x (xori lane8 (broadcast S8x128 b))

/-- Two vectors merged by maxima over lanes `b` apart: the first's in the lanes whose bit `b` is clear. -/
def merge (b : BitVec 32) (x y : FVec F S8x128 .f32) : FVec F S8x128 .f32 :=
  maximumf (select (cmpi .eq (andi lane8 (broadcast S8x128 b)) (broadcast S8x128 0#32)) x y)
    (xorPerm b (select (cmpi .eq (andi lane8 (broadcast S8x128 b)) (broadcast S8x128 0#32)) y x))

/-- One level of the tree. -/
def level (b : BitVec 32) (f : ℕ → FVec F S8x128 .f32) (t : ℕ) : FVec F S8x128 .f32 := merge b (f (2 * t)) (f (2 * t + 1))

/-- The third vector of three, which has no partner. -/
def lone (b : BitVec 32) (x : FVec F S8x128 .f32) : FVec F S8x128 .f32 := maximumf x (xorPerm b x)

/-- The groups' maxima of 32 tiles, and of 24. -/
def tree32 (f : ℕ → FVec F S8x128 .f32) : FVec F S8x128 .f32 :=
  level 1#32 (level 2#32 (level 4#32 (level 8#32 (level 16#32 f)))) 0
def tree24 (f : ℕ → FVec F S8x128 .f32) : FVec F S8x128 .f32 :=
  merge 1#32 (level 2#32 (level 4#32 (level 8#32 (level 16#32 f))) 0) (lone 2#32 (level 4#32 (level 8#32 (level 16#32 f)) 2))

/-- The bound of a group's scale: its largest value over 448. -/
def bound (m : FVec F S8x128 .f32) (r : FVec F S8x1 .f32) : FVec F S8x128 .f32 :=
  mulf (mulf m (broadcastTo S8x128 r broadcasts_S8x1_S8x128)) (broadcast S8x128 (Scalar.ofBits .f32 0x3B124925#32))

/-- One step of the search for the biased exponent. -/
def step (a : FVec F S8x128 .f32) (b : BitVec 32) (e : IVec S8x128 32) : IVec S8x128 32 :=
  select (cmpf .oge a (bitcastToFloat .f32 (shli (addi e (broadcast S8x128 b)) (broadcast S8x128 23#32)))) (addi e (broadcast S8x128 b)) e

def biased (a : FVec F S8x128 .f32) : IVec S8x128 32 :=
  step a 1#32 (step a 2#32 (step a 4#32 (step a 8#32 (step a 16#32 (step a 32#32 (step a 64#32 (step a 128#32 (broadcast S8x128 0#32))))))))

/-- The exponent of the scale: 0 where the bound is 0. -/
def expo (a : FVec F S8x128 .f32) : IVec S8x128 32 :=
  select (cmpf .oeq a (broadcast S8x128 (Scalar.ofBits .f32 0x00000000#32))) (broadcast S8x128 0#32) (subi (biased a) (broadcast S8x128 126#32))

/-- The scale and its reciprocal. -/
def scaleOf (a : FVec F S8x128 .f32) : FVec F S8x128 .f32 := bitcastToFloat .f32 (shli (addi (expo a) (broadcast S8x128 127#32)) (broadcast S8x128 23#32))
def invOf (a : FVec F S8x128 .f32) : FVec F S8x128 .f32 := bitcastToFloat .f32 (shli (subi (broadcast S8x128 127#32) (expo a)) (broadcast S8x128 23#32))

/-- What `u` is multiplied by. -/
def factorOf (a : FVec F S8x128 .f32) (r : FVec F S8x1 .f32) : FVec F S8x128 .f32 := mulf (invOf a) (broadcastTo S8x128 r broadcasts_S8x1_S8x128)

/-- The lane modulo 4, as printed. -/
def laneMod4 : IVec S8x128 32 :=
  let c := Scalar.select (Scalar.cmpi .eq 4#32 0#32) 1#32 4#32
  let m := remsi lane8 (broadcast S8x128 c)
  select (andi (xori (cmpi .slt m (broadcast S8x128 0#32)) (broadcastTo S8x128 (broadcast S8x128 (Scalar.cmpi .slt c 0#32)) broadcasts_S8x128_S8x128))
    (cmpi .ne m (broadcast S8x128 0#32))) (addi m (broadcast S8x128 c)) m

/-- Bit `k` of `t`, moved to bit `l`. -/
def bitTo (t : IVec S8x128 32) (k l : BitVec 32) : IVec S8x128 32 :=
  shli (andi (shrsi t (broadcast S8x128 k)) (broadcast S8x128 1#32)) (broadcast S8x128 l)

/-- The five bits of `t` in the opposite order. -/
def slot (t : IVec S8x128 32) : IVec S8x128 32 :=
  ori (ori (ori (ori (ori (broadcast S8x128 0#32) (bitTo t 0#32 4#32)) (bitTo t 1#32 3#32)) (bitTo t 2#32 2#32)) (bitTo t 3#32 1#32)) (bitTo t 4#32 0#32)

/-- The scales in the groups' order. -/
def natural (s : FVec F S8x128 .f32) : FVec F S8x128 .f32 :=
  gat8 s (addi (muli laneMod4 (broadcast S8x128 32#32)) (slot (floorDiv lane8 4#32)))

def first96 (x : FVec F S8x128 .f32) : FVec F S8x96 .f32 := extractStridedSlice S8x96 ![0, 0] x slices_S8x128_o0_0_S8x96

/-! ## The second pass -/

/-- The five bits of a number in the opposite order. -/
def rev5 (t : ℕ) : ℕ := 16 * (t % 2) + 8 * (t / 2 % 2) + 4 * (t / 4 % 2) + 2 * (t / 8 % 2) + t / 16 % 2

/-- Where the factors of tile `32 h + jj`'s lanes stand. -/
def idx8 (jj : ℕ) : IVec S8x128 32 := addi (muli (floorDiv lane8 32#32) (broadcast S8x128 32#32)) (broadcast S8x128 (BitVec.ofNat 32 (rev5 jj)))

/-- The scaled values, clipped. -/
def clipped (v : Vec F S8x128 .f32) (f : FVec F S8x128 .f32) (jj : ℕ) : FVec F S8x128 .f32 :=
  minimumf (broadcast S8x128 (Scalar.ofBits .f32 0x43E00000#32))
    (maximumf (broadcast S8x128 (Scalar.ofBits .f32 0xC3E00000#32)) (mulf (v : FVec F S8x128 .f32) (gat8 f (idx8 jj))))

def code (v : ℕ → Vec F S8x128 .f32) (f : ℕ → FVec F S8x128 .f32) (jj : ℕ) : FVec F S32x128 .fp8e4m3 :=
  truncf .fp8e4m3 (concatenate S32x128 0 [⟨S8x128, clipped (v 0) (f 0) jj⟩, ⟨S8x128, clipped (v 1) (f 1) jj⟩, ⟨S8x128, clipped (v 2) (f 2) jj⟩,
    ⟨S8x128, clipped (v 3) (f 3) jj⟩] concatenates_S8x128_S8x128_S8x128_S8x128_S32x128_d0) bitsLt_fp8e4m3_f32

/-! ## One trip, put together -/

section Trip
variable (P : ℕ → ℕ → Vec F S1x32x128 .fp8e4m3) (S : ℕ → Vec F S1x32x224 .f32) (B : ℕ → Vec F S1x128 .f32)
  (X : ℕ → Vec F S32x128 .bf16) (G : ℕ → Vec F S1x128 .f32)

/-- The reciprocal norms of rows `8 i … 8 i + 7`. -/
def rms (i : ℕ) : FVec F S8x1 .f32 := invRms (sumSq P S B X i 56)

/-- The groups' maxima of rows `8 i …`, of the half `h` of the tiles. -/
def maxOf (h i : ℕ) : FVec F S8x128 .f32 :=
  match h with
  | 0 => tree32 (fun t => absU P S B X G i t)
  | _ => tree24 (fun t => absU P S B X G i (32 + t))

/-- The bounds of their scales, and what `u` is multiplied by. -/
def bnd (h i : ℕ) : FVec F S8x128 .f32 := bound (maxOf P S B X G h i) (rms P S B X i)
def fac (h i : ℕ) : FVec F S8x128 .f32 := factorOf (bnd P S B X G h i) (rms P S B X i)

/-- The scales of rows `8 i …`, of the half `h` of the groups. -/
def scl (h i : ℕ) : FVec F S8x128 .f32 := natural (scaleOf (bnd P S B X G h i))

/-- The codes of tile `j`. -/
def codes (j : ℕ) : FVec F S32x128 .fp8e4m3 :=
  code (fun i => sl8 i (u P S B X G j : FVec F S32x128 .f32)) (fun i => fac P S B X G (j / 32) i) (j % 32)

end Trip

end Cert.KernelIdeal.Tiles

end
-- ==== Proof.Pieces.lean ====
/- What one trip stores, as lists over the tiles: the generated lists (Gen/KernelIdeal/Loops.lean `trip_k0_t1`) ARE the
   uniform ones of Tiles.lean at the trip's loads. -/
module

public import proofs.«01_k».proof.Proof.Tiles
public import Idealize.ShloMosaic.Lib.Tactic

@[expose] public section

noncomputable section

namespace Cert.KernelIdeal.Tiles

open Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- The first of the trip's rows. -/
abbrev row0 (k : Fin k0_t1_loop.trips) : ℕ :=
  (Scalar.indexCast (Scalar.muli (Scf.iv 0#32 1#32 k) 32#32) : Index).toNat

theorem row0_eq (k : Fin k0_t1_loop.trips) : row0 k = 32 * k.val := by
  revert k; decide

theorem row0_le (k : Fin k0_t1_loop.trips) : row0 k + 32 ≤ 128 := by
  have h := k.isLt
  have h4 : k0_t1_loop.trips = 4 := by decide
  rw [row0_eq]; omega

section Loads
variable (arg1 : Memref sig .tc .vmem S4x128x7168 .fp8e4m3) (arg2 : Memref sig .tc .vmem S4x128x224 .f32) (arg3 : Memref sig .tc .vmem S1x7168 .f32)
  (arg4 : Memref sig .tc .vmem S128x7168 .bf16) (arg5 : Memref sig .tc .vmem S1x7168 .f32) (arg9 : Memref sig .tc .vmem S32x7168 .f32)
  (X_arg1 : BufTy.Contents (Elt F) arg1.view.ty) (X_arg2 : BufTy.Contents (Elt F) arg2.view.ty) (X_arg3 : BufTy.Contents (Elt F) arg3.view.ty)
  (X_arg4 : BufTy.Contents (Elt F) arg4.view.ty) (X_arg5 : BufTy.Contents (Elt F) arg5.view.ty) (k : Fin k0_t1_loop.trips)

theorem inbP (p j : ℕ) : ∀ a, (![p % 4, row0 k, 128 * (j % 56)] : Fin 3 → ℕ) a + S1x32x128.size a ≤ S4x128x7168.size a := by
  have := row0_le k
  intro a; fin_cases a
  · show p % 4 + 1 ≤ 4; omega
  · show row0 k + 32 ≤ 128; omega
  · show 128 * (j % 56) + 128 ≤ 7168; omega
theorem inbS (p : ℕ) : ∀ a, (![p % 4, row0 k, 0] : Fin 3 → ℕ) a + S1x32x224.size a ≤ S4x128x224.size a := by
  have := row0_le k
  intro a; fin_cases a
  · show p % 4 + 1 ≤ 4; omega
  · show row0 k + 32 ≤ 128; omega
  · show 0 + 224 ≤ 224; omega
theorem inbB (j : ℕ) : ∀ a, (![0, 128 * (j % 56)] : Fin 2 → ℕ) a + S1x128.size a ≤ S1x7168.size a := by
  intro a; fin_cases a
  · show 0 + 1 ≤ 1; omega
  · show 128 * (j % 56) + 128 ≤ 7168; omega
theorem inbX (j : ℕ) : ∀ a, (![row0 k, 128 * (j % 56)] : Fin 2 → ℕ) a + S32x128.size a ≤ S128x7168.size a := by
  have := row0_le k
  intro a; fin_cases a
  · show row0 k + 32 ≤ 128; omega
  · show 128 * (j % 56) + 128 ≤ 7168; omega
theorem inbU (j : ℕ) : ∀ a, (![0, 128 * (j % 56)] : Fin 2 → ℕ) a + S32x128.size a ≤ S32x7168.size a := by
  intro a; fin_cases a
  · show 0 + 32 ≤ 32; omega
  · show 128 * (j % 56) + 128 ≤ 7168; omega
theorem inbV (i j : ℕ) : ∀ a, (![8 * (i % 4), 128 * (j % 56)] : Fin 2 → ℕ) a + S8x128.size a ≤ S32x7168.size a := by
  intro a; fin_cases a
  · show 8 * (i % 4) + 8 ≤ 32; omega
  · show 128 * (j % 56) + 128 ≤ 7168; omega

def ldP (p j : ℕ) : Vec F S1x32x128 .fp8e4m3 :=
  View.readAt (Elt F) arg1.view (Rect.unit (s := S4x128x7168) ![p % 4, row0 k, 128 * (j % 56)] S1x32x128.size (inbP k p j)).toLoadRect X_arg1
def ldS (p : ℕ) : Vec F S1x32x224 .f32 :=
  View.readAt (Elt F) arg2.view (Rect.unit (s := S4x128x224) ![p % 4, row0 k, 0] S1x32x224.size (inbS k p)).toLoadRect X_arg2
def ldB (j : ℕ) : Vec F S1x128 .f32 :=
  View.readAt (Elt F) arg3.view (Rect.unit (s := S1x7168) ![0, 128 * (j % 56)] S1x128.size (inbB j)).toLoadRect X_arg3
def ldX (j : ℕ) : Vec F S32x128 .bf16 :=
  View.readAt (Elt F) arg4.view (Rect.unit (s := S128x7168) ![row0 k, 128 * (j % 56)] S32x128.size (inbX k j)).toLoadRect X_arg4
def ldG (j : ℕ) : Vec F S1x128 .f32 :=
  View.readAt (Elt F) arg5.view (Rect.unit (s := S1x7168) ![0, 128 * (j % 56)] S1x128.size (inbB j)).toLoadRect X_arg5

/-- The tiles' numbers, last first: the order of the stores. -/
abbrev tilesRev : List ℕ := [55, 54, 53, 52, 51, 50, 49, 48, 47, 46, 45, 44, 43, 42, 41, 40, 39, 38, 37, 36, 35, 34, 33, 32, 31, 30, 29, 28,
  27, 26, 25, 24, 23, 22, 21, 20, 19, 18, 17, 16, 15, 14, 13, 12, 11, 10, 9, 8, 7, 6, 5, 4, 3, 2, 1, 0]

/-- What the trip stores in the residual's buffer. -/
def piecesNr : List (View.Piece (Elt F) S128x7168 .bf16) :=
  tilesRev.map fun j => ⟨Rect.unit (s := S128x7168) ![row0 k, 128 * (j % 56)] S32x128.size (inbX k j),
    nr (ldP arg1 X_arg1 k) (ldS arg2 X_arg2 k) (ldB arg3 X_arg3) (ldX arg4 X_arg4 k) j⟩

/-- What the trip stores in the scratch: the residual times the gain. -/
def piecesU : List (View.Piece (Elt F) S32x7168 .f32) :=
  tilesRev.map fun j => ⟨Rect.unit (s := S32x7168) ![0, 128 * (j % 56)] S32x128.size (inbU j),
    shapeCast S32x128 (u (ldP arg1 X_arg1 k) (ldS arg2 X_arg2 k) (ldB arg3 X_arg3) (ldX arg4 X_arg4 k) (ldG arg5 X_arg5) j) shapeCasts_S32x128_S32x128⟩

/-- Eight rows of a tile, read back from the scratch. -/
def ldU (i j : ℕ) : Vec F S8x128 .f32 :=
  arg9.view.readCov (piecesU arg1 arg2 arg3 arg4 arg5 X_arg1 X_arg2 X_arg3 X_arg4 X_arg5 k)
    (Rect.unit (s := S32x7168) ![8 * (i % 4), 128 * (j % 56)] S8x128.size (inbV i j)).toLoadRect

/-- The trip's rows `8 i …` within the block, as the kernel computes them. -/
abbrev row8 (i : ℕ) : ℕ :=
  (Scalar.indexCast (Scalar.addi (Scalar.muli (Scf.iv 0#32 1#32 k) 32#32) (BitVec.ofNat 32 (8 * (i % 4)))) : Index).toNat

theorem row8_eq (i : ℕ) : row8 k i = 32 * k.val + 8 * (i % 4) := by
  have h : i % 4 < 4 := Nat.mod_lt _ (by decide)
  unfold row8
  have key : ∀ (k : Fin k0_t1_loop.trips) (q : Fin 4), (Scalar.indexCast (Scalar.addi (Scalar.muli (Scf.iv 0#32 1#32 k) 32#32) (BitVec.ofNat 32 (8 * q.val))) : Index).toNat = 32 * k.val + 8 * q.val := by decide
  exact key k ⟨i % 4, h⟩

theorem inbS8 (i : ℕ) : ∀ a, (![row8 k i, 0] : Fin 2 → ℕ) a + S8x128.size a ≤ S128x224.size a := by
  have := row0_le k
  rw [row0_eq] at this
  intro a; fin_cases a
  · show row8 k i + 8 ≤ 128; rw [row8_eq]; omega
  · show 0 + 128 ≤ 224; omega
theorem inbS8' (i : ℕ) : ∀ a, (![row8 k i, 128] : Fin 2 → ℕ) a + S8x96.size a ≤ S128x224.size a := by
  have := row0_le k
  rw [row0_eq] at this
  intro a; fin_cases a
  · show row8 k i + 8 ≤ 128; rw [row8_eq]; omega
  · show 128 + 96 ≤ 224; omega

/-- What the trip stores in the scales' buffer. -/
def piecesSc : List (View.Piece (Elt F) S128x224 .f32) :=
  [3, 2, 1, 0].flatMap fun i =>
    [⟨Rect.unit (s := S128x224) ![row8 k i, 128] S8x96.size (inbS8' k i),
        first96 (scl (ldP arg1 X_arg1 k) (ldS arg2 X_arg2 k) (ldB arg3 X_arg3) (ldX arg4 X_arg4 k) (ldG arg5 X_arg5) 1 i)⟩,
     ⟨Rect.unit (s := S128x224) ![row8 k i, 0] S8x128.size (inbS8 k i),
        scl (ldP arg1 X_arg1 k) (ldS arg2 X_arg2 k) (ldB arg3 X_arg3) (ldX arg4 X_arg4 k) (ldG arg5 X_arg5) 0 i⟩]

/-- What the trip stores in the codes' buffer. -/
def piecesYc : List (View.Piece (Elt F) S128x7168 .fp8e4m3) :=
  tilesRev.map fun j => ⟨Rect.unit (s := S128x7168) ![row0 k, 128 * (j % 56)] S32x128.size (inbX k j),
    code (fun i => ldU arg1 arg2 arg3 arg4 arg5 arg9 X_arg1 X_arg2 X_arg3 X_arg4 X_arg5 k i j)
      (fun i => fac (ldP arg1 X_arg1 k) (ldS arg2 X_arg2 k) (ldB arg3 X_arg3) (ldX arg4 X_arg4 k) (ldG arg5 X_arg5) (j / 32) i) (j % 32)⟩

end Loads

set_option maxRecDepth 65536
theorem trip_nr (𝒱 : Variants) (c : Dev nD) (bd : Option 𝒱.V) (i : grid0.Coords) (arg1 : Memref sig .tc .vmem S4x128x7168 .fp8e4m3) (harg1 : arg1.IsWhole) (arg2 : Memref sig .tc .vmem S4x128x224 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S128x224 .f32) (harg8 : arg8.IsWhole) (arg9 : Memref sig .tc .vmem S32x7168 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 X_arg1 X_arg2 X_arg3 X_arg4 X_arg5 k).1 f6 f7 f8 f9
      = piecesNr arg1 arg2 arg3 arg4 X_arg1 X_arg2 X_arg3 X_arg4 k := by
  sl_kernel_rfl

theorem trip_sc (𝒱 : Variants) (c : Dev nD) (bd : Option 𝒱.V) (i : grid0.Coords) (arg1 : Memref sig .tc .vmem S4x128x7168 .fp8e4m3) (harg1 : arg1.IsWhole) (arg2 : Memref sig .tc .vmem S4x128x224 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S128x224 .f32) (harg8 : arg8.IsWhole) (arg9 : Memref sig .tc .vmem S32x7168 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 X_arg1 X_arg2 X_arg3 X_arg4 X_arg5 k).2.2.1 f6 f7 f8 f9
      = piecesSc arg1 arg2 arg3 arg4 arg5 X_arg1 X_arg2 X_arg3 X_arg4 X_arg5 k := by
  sl_kernel_rfl

theorem trip_yc (𝒱 : Variants) (c : Dev nD) (bd : Option 𝒱.V) (i : grid0.Coords) (arg1 : Memref sig .tc .vmem S4x128x7168 .fp8e4m3) (harg1 : arg1.IsWhole) (arg2 : Memref sig .tc .vmem S4x128x224 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S128x224 .f32) (harg8 : arg8.IsWhole) (arg9 : Memref sig .tc .vmem S32x7168 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 X_arg1 X_arg2 X_arg3 X_arg4 X_arg5 k).2.1 f6 f7 f8 f9
      = piecesYc arg1 arg2 arg3 arg4 arg5 arg9 X_arg1 X_arg2 X_arg3 X_arg4 X_arg5 k := by
  sl_kernel_rfl

end Cert.KernelIdeal.Tiles

end
-- ==== Proof.Blocks.lean ====
/- What one run of the kernel's body leaves in its three outputs' buffers, in closed form over the five input blocks: row `y`
   belongs to trip `y / 32` of the loop, lane `l` to tile `l / 128`. -/
module

public import proofs.«01_k».proof.Proof.Pieces
public import Idealize.ShloMosaic.Lib.Ring
public import Idealize.ShloMosaic.Lib.Pipeline.ValueKit.Tiles

@[expose] public section

noncomputable section

namespace Cert.KernelIdeal.Tiles

open Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

theorem trips_eq : k0_t1_loop.trips = 4 := by decide

/-! ## The tiles of a block -/

section Blocks
variable (x0 : Vec F S4x128x7168 .fp8e4m3) (x1 : Vec F S4x128x224 .f32) (x2 : Vec F S1x7168 .f32) (x3 : Vec F S128x7168 .bf16) (x4 : Vec F S1x7168 .f32)
  (k : Fin k0_t1_loop.trips)

def bP (p j : ℕ) : Vec F S1x32x128 .fp8e4m3 := View.ld x0 (Rect.unit (s := S4x128x7168) ![p % 4, row0 k, 128 * (j % 56)] S1x32x128.size (inbP k p j))
def bS (p : ℕ) : Vec F S1x32x224 .f32 := View.ld x1 (Rect.unit (s := S4x128x224) ![p % 4, row0 k, 0] S1x32x224.size (inbS k p))
def bV (x : Vec F S1x7168 .f32) (j : ℕ) : Vec F S1x128 .f32 := View.ld x (Rect.unit (s := S1x7168) ![0, 128 * (j % 56)] S1x128.size (inbB j))
def bX (j : ℕ) : Vec F S32x128 .bf16 := View.ld x3 (Rect.unit (s := S128x7168) ![row0 k, 128 * (j % 56)] S32x128.size (inbX k j))

theorem ldP_unread (arg1 : Memref sig .tc .vmem S4x128x7168 .fp8e4m3) (h : arg1.IsWhole) : ldP arg1 (h.unread x0) k = bP x0 k :=
  funext fun _ => funext fun _ => funext fun _ => congrFun (h.read_unread x0) _
theorem ldS_unread (arg2 : Memref sig .tc .vmem S4x128x224 .f32) (h : arg2.IsWhole) : ldS arg2 (h.unread x1) k = bS x1 k :=
  funext fun _ => funext fun _ => congrFun (h.read_unread x1) _
theorem ldB_unread (arg3 : Memref sig .tc .vmem S1x7168 .f32) (h : arg3.IsWhole) : ldB arg3 (h.unread x2) = bV x2 :=
  funext fun _ => funext fun _ => congrFun (h.read_unread x2) _
theorem ldG_unread (arg5 : Memref sig .tc .vmem S1x7168 .f32) (h : arg5.IsWhole) : ldG arg5 (h.unread x4) = bV x4 :=
  funext fun _ => funext fun _ => congrFun (h.read_unread x4) _
theorem ldX_unread (arg4 : Memref sig .tc .vmem S128x7168 .bf16) (h : arg4.IsWhole) : ldX arg4 (h.unread x3) k = bX x3 k :=
  funext fun _ => funext fun _ => congrFun (h.read_unread x3) _

/-- The trip of row `r` of a block. -/
def tripOf (r : ℕ) (h : r < 128) : Fin k0_t1_loop.trips := ⟨r / 32, by rw [trips_eq]; omega⟩

/-- An index of a tile: row `r` of the trip, lane `l` of the tile. -/
def ix32 (r l : ℕ) : S32x128.Idx := fun a => match a with
  | ⟨0, _⟩ => ⟨r % 32, Nat.mod_lt _ (by decide)⟩ | ⟨1, _⟩ => ⟨l % 128, Nat.mod_lt _ (by decide)⟩
def ix8 (r l : ℕ) : S8x128.Idx := fun a => match a with
  | ⟨0, _⟩ => ⟨r % 8, Nat.mod_lt _ (by decide)⟩ | ⟨1, _⟩ => ⟨l % 128, Nat.mod_lt _ (by decide)⟩

theorem ix32_eq (x : S32x128.Idx) (r l : ℕ) (h0 : (x 0).val = r % 32) (h1 : (x 1).val = l % 128) : x = ix32 r l := by
  funext a; fin_cases a
  · exact Fin.ext h0
  · exact Fin.ext h1
theorem ix8_eq (x : S8x128.Idx) (r l : ℕ) (h0 : (x 0).val = r % 8) (h1 : (x 1).val = l % 128) : x = ix8 r l := by
  funext a; fin_cases a
  · exact Fin.ext h0
  · exact Fin.ext h1

/-- The residual's block, the codes' and the scales'. -/
def outNr : Vec F S128x7168 .bf16 := fun y =>
  nr (bP x0 (tripOf (y 0).val (y 0).isLt)) (bS x1 (tripOf (y 0).val (y 0).isLt)) (bV x2) (bX x3 (tripOf (y 0).val (y 0).isLt)) ((y 1).val / 128)
    (ix32 (y 0).val (y 1).val)
def outYc : Vec F S128x7168 .fp8e4m3 := fun y =>
  codes (bP x0 (tripOf (y 0).val (y 0).isLt)) (bS x1 (tripOf (y 0).val (y 0).isLt)) (bV x2) (bX x3 (tripOf (y 0).val (y 0).isLt)) (bV x4) ((y 1).val / 128)
    (ix32 (y 0).val (y 1).val)
def outSc : Vec F S128x224 .f32 := fun y =>
  scl (bP x0 (tripOf (y 0).val (y 0).isLt)) (bS x1 (tripOf (y 0).val (y 0).isLt)) (bV x2) (bX x3 (tripOf (y 0).val (y 0).isLt)) (bV x4) ((y 1).val / 128)
    ((y 0).val % 32 / 8) (ix8 (y 0).val (y 1).val)

end Blocks

/-! ## The lists of stores, the trips one after another -/

section Lists
variable (arg1 : Memref sig .tc .vmem S4x128x7168 .fp8e4m3) (harg1 : arg1.IsWhole) (arg2 : Memref sig .tc .vmem S4x128x224 .f32) (harg2 : arg2.IsWhole)
  (arg3 : Memref sig .tc .vmem S1x7168 .f32) (harg3 : arg3.IsWhole) (arg4 : Memref sig .tc .vmem S128x7168 .bf16) (harg4 : arg4.IsWhole)
  (arg5 : Memref sig .tc .vmem S1x7168 .f32) (harg5 : arg5.IsWhole) (arg9 : Memref sig .tc .vmem S32x7168 .f32)
  (x0 : Vec F S4x128x7168 .fp8e4m3) (x1 : Vec F S4x128x224 .f32) (x2 : Vec F S1x7168 .f32) (x3 : Vec F S128x7168 .bf16) (x4 : Vec F S1x7168 .f32)

/-- The trips, last first. -/
def tripsRev : List (Fin k0_t1_loop.trips) :=
  [⟨3, by rw [trips_eq]; decide⟩, ⟨2, by rw [trips_eq]; decide⟩, ⟨1, by rw [trips_eq]; decide⟩, ⟨0, by rw [trips_eq]; decide⟩]

def allNr : List (View.Piece (Elt F) S128x7168 .bf16) :=
  tripsRev.flatMap fun k => piecesNr arg1 arg2 arg3 arg4 (harg1.unread x0) (harg2.unread x1) (harg3.unread x2) (harg4.unread x3) k
def allYc : List (View.Piece (Elt F) S128x7168 .fp8e4m3) :=
  tripsRev.flatMap fun k => piecesYc arg1 arg2 arg3 arg4 arg5 arg9 (harg1.unread x0) (harg2.unread x1) (harg3.unread x2) (harg4.unread x3) (harg5.unread x4) k
def allSc : List (View.Piece (Elt F) S128x224 .f32) :=
  tripsRev.flatMap fun k => piecesSc arg1 arg2 arg3 arg4 arg5 (harg1.unread x0) (harg2.unread x1) (harg3.unread x2) (harg4.unread x3) (harg5.unread x4) k

theorem cover_allNr (y : S128x7168.Idx) : ∃ pc ∈ allNr arg1 harg1 arg2 harg2 arg3 harg3 arg4 harg4 x0 x1 x2 x3, y ∈ pc.1.set :=
  View.cover_of_tiledL (allNr arg1 harg1 arg2 harg2 arg3 harg3 arg4 harg4 x0 x1 x2 x3) S32x128.size (by sl_kernel_rfl) y
theorem cover_allYc (y : S128x7168.Idx) : ∃ pc ∈ allYc arg1 harg1 arg2 harg2 arg3 harg3 arg4 harg4 arg5 harg5 arg9 x0 x1 x2 x3 x4, y ∈ pc.1.set :=
  View.cover_of_tiledL (allYc arg1 harg1 arg2 harg2 arg3 harg3 arg4 harg4 arg5 harg5 arg9 x0 x1 x2 x3 x4) S32x128.size (by sl_kernel_rfl) y
theorem cover_allSc (y : S128x224.Idx) : ∃ pc ∈ allSc arg1 harg1 arg2 harg2 arg3 harg3 arg4 harg4 arg5 harg5 x0 x1 x2 x3 x4, y ∈ pc.1.set :=
  View.cover_of_tiledBy (allSc arg1 harg1 arg2 harg2 arg3 harg3 arg4 harg4 arg5 harg5 x0 x1 x2 x3 x4) ![8, 32] (by sl_kernel_rfl) y
theorem cover_piecesU (k : Fin k0_t1_loop.trips) (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (y : S32x7168.Idx) :
    ∃ pc ∈ piecesU arg1 arg2 arg3 arg4 arg5 X_arg1 X_arg2 X_arg3 X_arg4 X_arg5 k, y ∈ pc.1.set :=
  View.cover_of_tiledL (piecesU arg1 arg2 arg3 arg4 arg5 X_arg1 X_arg2 X_arg3 X_arg4 X_arg5 k) S32x128.size (by sl_kernel_rfl) y

theorem mem_tilesRev {j : ℕ} (h : j ∈ tilesRev) : j < 56 := by
  have : ∀ j ∈ tilesRev, j < 56 := by decide
  exact this j h

/-- Eight rows from row `o` on, of 32. -/
theorem rows_apply {α : Type} (o : ℕ) (ho : o + 8 ≤ 32) (h : S32x128.Slices ![o, 0] S8x128) (x : S32x128.Idx → α) (y : S8x128.Idx) :
    extractStridedSlice S8x128 ![o, 0] x h y = x (ix32 (o + (y 0).val) (y 1).val) := by
  have h0 : (y 0).val < 8 := (y 0).isLt
  have h1 : (y 1).val < 128 := (y 1).isLt
  refine extractStridedSlice_apply _ _ _ _ _ fun a => ?_
  fin_cases a
  · show (o + (y 0).val) % 32 = o + (y 0).val
    omega
  · show (y 1).val % 128 = 0 + (y 1).val
    omega

theorem sl8_apply {α : Type} (i : ℕ) (hi : i < 4) (x : S32x128.Idx → α) (y : S8x128.Idx) : sl8 i x y = x (ix32 (8 * i + (y 0).val) (y 1).val) := by
  obtain rfl | rfl | rfl | rfl : i = 0 ∨ i = 1 ∨ i = 2 ∨ i = 3 := by omega
  · exact rows_apply 0 (by decide) slices_S32x128_o0_0_S8x128 x y
  · exact rows_apply 8 (by decide) slices_S32x128_o8_0_S8x128 x y
  · exact rows_apply 16 (by decide) slices_S32x128_o16_0_S8x128 x y
  · exact rows_apply 24 (by decide) slices_S32x128_o24_0_S8x128 x y

theorem first96_apply (v : FVec F S8x128 .f32) (y : S8x96.Idx) : first96 v y = v (ix8 (y 0).val (y 1).val) := by
  have h0 : (y 0).val < 8 := (y 0).isLt
  have h1 : (y 1).val < 96 := (y 1).isLt
  unfold first96
  refine extractStridedSlice_apply _ _ _ _ _ fun a => ?_
  fin_cases a
  · show (y 0).val % 8 = 0 + (y 0).val
    omega
  · show (y 1).val % 128 = 0 + (y 1).val
    omega

/-- What is read back from the scratch is what was stored: the residual times the gain. -/
theorem ldU_eq (k : Fin k0_t1_loop.trips) (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (i j : ℕ) (hi : i < 4) (hj : j < 56) :
    ldU arg1 arg2 arg3 arg4 arg5 arg9 X_arg1 X_arg2 X_arg3 X_arg4 X_arg5 k i j
      = sl8 i (u (ldP arg1 X_arg1 k) (ldS arg2 X_arg2 k) (ldB arg3 X_arg3) (ldX arg4 X_arg4 k) (ldG arg5 X_arg5) j : FVec F S32x128 .f32) := by
  unfold ldU
  rw [View.readCov_eq_canon_ld _ _ _ (cover_piecesU arg1 arg2 arg3 arg4 arg5 k X_arg1 X_arg2 X_arg3 X_arg4 X_arg5)]
  funext y
  have y0 : (y 0).val < 8 := (y 0).isLt
  have y1 : (y 1).val < 128 := (y 1).isLt
  rw [sl8_apply i hi, View.ld_apply]
  refine View.canon_eq_of_allAt _ _ _ (cover_piecesU arg1 arg2 arg3 arg4 arg5 k X_arg1 X_arg2 X_arg3 X_arg4 X_arg5 _) fun p hp x hx => ?_
  obtain ⟨j', hj', rfl⟩ := List.mem_map.mp hp
  have hj56 := mem_tilesRev hj'
  have e0 := congrArg Fin.val (congrFun hx 0)
  have e1 := congrArg Fin.val (congrFun hx 1)
  simp only [Rect.idx_unit_val] at e0 e1
  have e0' : 0 + 1 * (x 0).val = 8 * (i % 4) + (y 0).val := e0
  have e1' : 128 * (j' % 56) + 1 * (x 1).val = 128 * (j % 56) + (y 1).val := e1
  have x1 : (x 1).val < 128 := (x 1).isLt
  have hjj : j' = j := by omega
  subst hjj
  refine (congrFun (shapeCast_self (u (ldP arg1 X_arg1 k) (ldS arg2 X_arg2 k) (ldB arg3 X_arg3) (ldX arg4 X_arg4 k) (ldG arg5 X_arg5) j' : FVec F S32x128 .f32)
    shapeCasts_S32x128_S32x128) x).trans (congrArg _ (ix32_eq x _ _ ?_ ?_)) <;> omega

theorem code_congr (v v' : ℕ → Vec F S8x128 .f32) (f : ℕ → FVec F S8x128 .f32) (jj : ℕ) (h : ∀ i < 4, v i = v' i) : code v f jj = code v' f jj := by
  unfold code
  rw [h 0 (by decide), h 1 (by decide), h 2 (by decide), h 3 (by decide)]

theorem tripOf_eq (k : Fin k0_t1_loop.trips) (r : ℕ) (h : r < 128) (e : r / 32 = k.val) : tripOf r h = k := Fin.ext e

/-- The stores of the three outputs, read back. -/
theorem canon_allNr : View.canon (allNr arg1 harg1 arg2 harg2 arg3 harg3 arg4 harg4 x0 x1 x2 x3) = outNr x0 x1 x2 x3 := by
  funext y
  refine View.canon_eq_of_allAt _ _ _ (cover_allNr arg1 harg1 arg2 harg2 arg3 harg3 arg4 harg4 x0 x1 x2 x3 y) fun p hp x hx => ?_
  obtain ⟨k, -, hk⟩ := List.mem_flatMap.mp hp
  obtain ⟨j, hj, rfl⟩ := List.mem_map.mp hk
  have hj56 := mem_tilesRev hj
  have e0 : row0 k + 1 * (x 0).val = (y 0).val := congrArg Fin.val (congrFun hx 0)
  have e1 : 128 * (j % 56) + 1 * (x 1).val = (y 1).val := congrArg Fin.val (congrFun hx 1)
  have x0' : (x 0).val < 32 := (x 0).isLt
  have x1' : (x 1).val < 128 := (x 1).isLt
  have r0 := row0_eq k
  unfold outNr
  rw [show tripOf (y 0).val (y 0).isLt = k from tripOf_eq k _ _ (by omega), show (y 1).val / 128 = j by omega, ldP_unread, ldS_unread, ldB_unread, ldX_unread]
  refine congrArg _ (ix32_eq x _ _ ?_ ?_) <;> omega

theorem canon_allYc : View.canon (allYc arg1 harg1 arg2 harg2 arg3 harg3 arg4 harg4 arg5 harg5 arg9 x0 x1 x2 x3 x4) = outYc x0 x1 x2 x3 x4 := by
  funext y
  refine View.canon_eq_of_allAt _ _ _ (cover_allYc arg1 harg1 arg2 harg2 arg3 harg3 arg4 harg4 arg5 harg5 arg9 x0 x1 x2 x3 x4 y) fun p hp x hx => ?_
  obtain ⟨k, -, hk⟩ := List.mem_flatMap.mp hp
  obtain ⟨j, hj, rfl⟩ := List.mem_map.mp hk
  have hj56 := mem_tilesRev hj
  have e0 : row0 k + 1 * (x 0).val = (y 0).val := congrArg Fin.val (congrFun hx 0)
  have e1 : 128 * (j % 56) + 1 * (x 1).val = (y 1).val := congrArg Fin.val (congrFun hx 1)
  have x0' : (x 0).val < 32 := (x 0).isLt
  have x1' : (x 1).val < 128 := (x 1).isLt
  have r0 := row0_eq k
  unfold outYc
  rw [show tripOf (y 0).val (y 0).isLt = k from tripOf_eq k _ _ (by omega), show (y 1).val / 128 = j by omega]
  unfold codes
  refine (congrFun (code_congr _ _ _ _ fun i hi => ldU_eq arg1 arg2 arg3 arg4 arg5 arg9 k _ _ _ _ _ i j hi hj56) x).trans ?_
  rw [ldP_unread, ldS_unread, ldB_unread, ldX_unread, ldG_unread]
  refine congrArg _ (ix32_eq x _ _ ?_ ?_) <;> omega

theorem canon_allSc : View.canon (allSc arg1 harg1 arg2 harg2 arg3 harg3 arg4 harg4 arg5 harg5 x0 x1 x2 x3 x4) = outSc x0 x1 x2 x3 x4 := by
  funext y
  refine View.canon_eq_of_allAt _ _ _ (cover_allSc arg1 harg1 arg2 harg2 arg3 harg3 arg4 harg4 arg5 harg5 x0 x1 x2 x3 x4 y) fun p hp x hx => ?_
  obtain ⟨k, -, hk⟩ := List.mem_flatMap.mp hp
  obtain ⟨i, hi, hi'⟩ := List.mem_flatMap.mp hk
  have hi4 : i < 4 := by
    have : ∀ i ∈ [3, 2, 1, 0], i < 4 := by decide
    exact this i hi
  have yl : (y 1).val < 224 := (y 1).isLt
  rcases List.mem_cons.mp hi' with rfl | hi''
  · have e0 : row8 k i + 1 * (x 0).val = (y 0).val := congrArg Fin.val (congrFun hx 0)
    have e1 : 128 + 1 * (x 1).val = (y 1).val := congrArg Fin.val (congrFun hx 1)
    have x0' : (x 0).val < 8 := (x 0).isLt
    have x1' : (x 1).val < 96 := (x 1).isLt
    have r8 := row8_eq k i
    unfold outSc
    rw [show tripOf (y 0).val (y 0).isLt = k from tripOf_eq k _ _ (by omega), show (y 1).val / 128 = 1 by omega, show (y 0).val % 32 / 8 = i by omega]
    rw [ldP_unread, ldS_unread, ldB_unread, ldX_unread, ldG_unread]
    refine (first96_apply (scl (bP x0 k) (bS x1 k) (bV x2) (bX x3 k) (bV x4) 1 i) x).trans (congrArg _ (ix8_eq _ _ _ ?_ ?_))
    · show (x 0).val % 8 = _
      omega
    · show (x 1).val % 128 = _
      omega
  · obtain rfl := List.mem_singleton.mp hi''
    have e0 : row8 k i + 1 * (x 0).val = (y 0).val := congrArg Fin.val (congrFun hx 0)
    have e1 : 0 + 1 * (x 1).val = (y 1).val := congrArg Fin.val (congrFun hx 1)
    have x0' : (x 0).val < 8 := (x 0).isLt
    have x1' : (x 1).val < 128 := (x 1).isLt
    have r8 := row8_eq k i
    unfold outSc
    rw [show tripOf (y 0).val (y 0).isLt = k from tripOf_eq k _ _ (by omega), show (y 1).val / 128 = 0 by omega, show (y 0).val % 32 / 8 = i by omega]
    rw [ldP_unread, ldS_unread, ldB_unread, ldX_unread, ldG_unread]
    refine congrArg _ (ix8_eq x _ _ ?_ ?_) <;> omega

end Lists

/-! ## The loop's lists are these -/

theorem pb_nr (𝒱 : Variants) (c : Dev nD) (bd : Option 𝒱.V) (i : grid0.Coords) (arg1 : Memref sig .tc .vmem S4x128x7168 .fp8e4m3) (harg1 : arg1.IsWhole) (arg2 : Memref sig .tc .vmem S4x128x224 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S128x224 .f32) (harg8 : arg8.IsWhole) (arg9 : Memref sig .tc .vmem S32x7168 .f32) (harg9 : arg9.IsWhole)
    (x0 : Vec F S4x128x7168 .fp8e4m3) (x1 : Vec F S4x128x224 .f32) (x2 : Vec F S1x7168 .f32) (x3 : Vec F S128x7168 .bf16) (x4 : Vec F S1x7168 .f32) (G6 : BufTy.Contents (Elt F) arg6.view.ty) (G7 : BufTy.Contents (Elt F) arg7.view.ty) (G8 : BufTy.Contents (Elt F) arg8.view.ty) (G9 : BufTy.Contents (Elt F) arg9.view.ty) :
    (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) G6 G7 G8 G9 k0_t1_loop.trips).1 = allNr arg1 harg1 arg2 harg2 arg3 harg3 arg4 harg4 x0 x1 x2 x3 := by
  have h : ∀ k : Fin k0_t1_loop.trips, (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) G6 G7 G8 G9 (k.val + 1)).1 = piecesNr arg1 arg2 arg3 arg4 (harg1.unread x0) (harg2.unread x1) (harg3.unread x2) (harg4.unread x3) k ++ (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) G6 G7 G8 G9 k.val).1 := fun k => by
    rw [pb_k0_t1_succ]
    exact congrArg (· ++ _) (trip_nr (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) k _ _ _ _)
  refine ((h ⟨3, by rw [trips_eq]; decide⟩).trans ?_)
  refine (congrArg _ ((h ⟨2, by rw [trips_eq]; decide⟩).trans ?_))
  refine (congrArg _ ((h ⟨1, by rw [trips_eq]; decide⟩).trans ?_))
  exact congrArg _ (h ⟨0, by rw [trips_eq]; decide⟩)

theorem pb_yc (𝒱 : Variants) (c : Dev nD) (bd : Option 𝒱.V) (i : grid0.Coords) (arg1 : Memref sig .tc .vmem S4x128x7168 .fp8e4m3) (harg1 : arg1.IsWhole) (arg2 : Memref sig .tc .vmem S4x128x224 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S128x224 .f32) (harg8 : arg8.IsWhole) (arg9 : Memref sig .tc .vmem S32x7168 .f32) (harg9 : arg9.IsWhole)
    (x0 : Vec F S4x128x7168 .fp8e4m3) (x1 : Vec F S4x128x224 .f32) (x2 : Vec F S1x7168 .f32) (x3 : Vec F S128x7168 .bf16) (x4 : Vec F S1x7168 .f32) (G6 : BufTy.Contents (Elt F) arg6.view.ty) (G7 : BufTy.Contents (Elt F) arg7.view.ty) (G8 : BufTy.Contents (Elt F) arg8.view.ty) (G9 : BufTy.Contents (Elt F) arg9.view.ty) :
    (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) G6 G7 G8 G9 k0_t1_loop.trips).2.1 = allYc arg1 harg1 arg2 harg2 arg3 harg3 arg4 harg4 arg5 harg5 arg9 x0 x1 x2 x3 x4 := by
  have h : ∀ k : Fin k0_t1_loop.trips, (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) G6 G7 G8 G9 (k.val + 1)).2.1 = piecesYc arg1 arg2 arg3 arg4 arg5 arg9 (harg1.unread x0) (harg2.unread x1) (harg3.unread x2) (harg4.unread x3) (harg5.unread x4) k ++ (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) G6 G7 G8 G9 k.val).2.1 := fun k => by
    rw [pb_k0_t1_succ]
    exact congrArg (· ++ _) (trip_yc (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) k _ _ _ _)
  refine ((h ⟨3, by rw [trips_eq]; decide⟩).trans ?_)
  refine (congrArg _ ((h ⟨2, by rw [trips_eq]; decide⟩).trans ?_))
  refine (congrArg _ ((h ⟨1, by rw [trips_eq]; decide⟩).trans ?_))
  exact congrArg _ (h ⟨0, by rw [trips_eq]; decide⟩)

theorem pb_sc (𝒱 : Variants) (c : Dev nD) (bd : Option 𝒱.V) (i : grid0.Coords) (arg1 : Memref sig .tc .vmem S4x128x7168 .fp8e4m3) (harg1 : arg1.IsWhole) (arg2 : Memref sig .tc .vmem S4x128x224 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S128x224 .f32) (harg8 : arg8.IsWhole) (arg9 : Memref sig .tc .vmem S32x7168 .f32) (harg9 : arg9.IsWhole)
    (x0 : Vec F S4x128x7168 .fp8e4m3) (x1 : Vec F S4x128x224 .f32) (x2 : Vec F S1x7168 .f32) (x3 : Vec F S128x7168 .bf16) (x4 : Vec F S1x7168 .f32) (G6 : BufTy.Contents (Elt F) arg6.view.ty) (G7 : BufTy.Contents (Elt F) arg7.view.ty) (G8 : BufTy.Contents (Elt F) arg8.view.ty) (G9 : BufTy.Contents (Elt F) arg9.view.ty) :
    (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) G6 G7 G8 G9 k0_t1_loop.trips).2.2.1 = allSc arg1 harg1 arg2 harg2 arg3 harg3 arg4 harg4 arg5 harg5 x0 x1 x2 x3 x4 := by
  have h : ∀ k : Fin k0_t1_loop.trips, (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) G6 G7 G8 G9 (k.val + 1)).2.2.1 = piecesSc arg1 arg2 arg3 arg4 arg5 (harg1.unread x0) (harg2.unread x1) (harg3.unread x2) (harg4.unread x3) (harg5.unread x4) k ++ (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) G6 G7 G8 G9 k.val).2.2.1 := fun k => by
    rw [pb_k0_t1_succ]
    exact congrArg (· ++ _) (trip_sc (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) k _ _ _ _)
  refine ((h ⟨3, by rw [trips_eq]; decide⟩).trans ?_)
  refine (congrArg _ ((h ⟨2, by rw [trips_eq]; decide⟩).trans ?_))
  refine (congrArg _ ((h ⟨1, by rw [trips_eq]; decide⟩).trans ?_))
  exact congrArg _ (h ⟨0, by rw [trips_eq]; decide⟩)

end Cert.KernelIdeal.Tiles

end
-- ==== Proof.Run.lean ====
/- The run of `proofs.«01_k».proof.KernelIdeal` with what it leaves named: the body's run on whole staging memrefs (the loop over
   the four row chunks by the generated invariant), which leaves `outNr`, `outYc`, `outSc` of the five input blocks
   (Blocks.lean); the proof data, the body obligation, the launch, and the frame.
   The frame kit it stands on is the generated one (Gen/KernelIdeal/Frame.lean). The scratch `arg9` is written before it is read
   within each trip, so the body asks nothing of what it holds. -/
module

public import proofs.«01_k».proof.Proof.Blocks
public import proofs.«01_k».proof.Proof.Gen.KernelIdeal.Frame
public import Idealize.ShloMosaic.Lib.Pipeline.FrameBody
public import Idealize.ShloMosaic.Lib.Pipeline.FrameSuffix
public import Idealize.ShloMosaic.Lib.Exec
public import Idealize.ShloMosaic.Lib.Claim
public import Idealize.ShloMosaic.Lib.Ring
public import Idealize.ShloMosaic.Lib.Tactic

@[expose] public section

-- membership in a rectangle of production extents (`View.cover_of_tiled`): the elaborator's structural look
-- recurses once per coordinate of the long axes
set_option maxRecDepth 16384

noncomputable section

namespace Cert.KernelIdeal.Body

open Cert.KernelIdeal.Gen Cert.KernelIdeal.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The kernel body on any staging memrefs: a subtype the run finds -/

/-- Each window's current staging memref at point `t`, spelled as the pipeline passes it (`bodyAt0`), and its wholeness. -/
abbrev ms0_0 (t : Fin cfg0.N) : Memref sig .tc .vmem S4x128x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x128x224 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x7168 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x7168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7168 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x7168 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x224 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S32x7168 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple: on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S4x128x7168 .fp8e4m3) (harg1 : arg1.IsWhole) (arg2 : Memref sig .tc .vmem S4x128x224 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S128x224 .f32) (harg8 : arg8.IsWhole) (arg9 : Memref sig .tc .vmem S32x7168 .f32) (harg9 : arg9.IsWhole)
    (x0 : Vec F S4x128x7168 .fp8e4m3) (x1 : Vec F S4x128x224 .f32) (x2 : Vec F S1x7168 .f32) (x3 : Vec F S128x7168 .bf16) (x4 : Vec F S1x7168 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outNr x0 x1 x2 x3) ∗ owns (c : Thread nD τ) arg7 fullShare (outYc x0 x1 x2 x3 x4) ∗ owns (c : Thread nD τ) arg8 fullShare (outSc x0 x1 x2 x3 x4) ∗ (∃ d, owns (c : Thread nD τ) arg9 fullShare d)) -∗ K ⟨⟩))
          ⊢ wp frame (wpE (defs₀ (F := F)) Variants.none c none) E (cc0_fused_norm_quant i arg1 harg1 arg2 harg2 arg3 harg3 arg4 harg4 arg5 harg5 arg6 harg6 arg7 harg7 arg8 harg8 arg9 harg9) K := by
    intro E K
    simp only [cc0_fused_norm_quant_eq_skeleton]; unfold cc0_fused_norm_quant_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      exact (congrArg (fun L => arg6.view.read (Elt F) (arg6.view.writes (Elt F) _ L)) (pb_nr _ _ _ _ arg1 harg1 arg2 harg2 arg3 harg3 arg4 harg4 arg5 harg5 arg6 harg6 arg7 harg7 arg8 harg8 arg9 harg9 x0 x1 x2 x3 x4 _ _ _ _)).trans
        ((View.read_writes_eq_canon _ _ _ (cover_allNr arg1 harg1 arg2 harg2 arg3 harg3 arg4 harg4 x0 x1 x2 x3)).trans (canon_allNr arg1 harg1 arg2 harg2 arg3 harg3 arg4 harg4 x0 x1 x2 x3))
    isplitl [H6]
    · iexists _; isplitr; swap; · iexact H6
      ipureintro
      exact (congrArg (fun L => arg7.view.read (Elt F) (arg7.view.writes (Elt F) _ L)) (pb_yc _ _ _ _ arg1 harg1 arg2 harg2 arg3 harg3 arg4 harg4 arg5 harg5 arg6 harg6 arg7 harg7 arg8 harg8 arg9 harg9 x0 x1 x2 x3 x4 _ _ _ _)).trans
        ((View.read_writes_eq_canon _ _ _ (cover_allYc arg1 harg1 arg2 harg2 arg3 harg3 arg4 harg4 arg5 harg5 arg9 x0 x1 x2 x3 x4)).trans (canon_allYc arg1 harg1 arg2 harg2 arg3 harg3 arg4 harg4 arg5 harg5 arg9 x0 x1 x2 x3 x4))
    isplitl [H7]
    · iexists _; isplitr; swap; · iexact H7
      ipureintro
      exact (congrArg (fun L => arg8.view.read (Elt F) (arg8.view.writes (Elt F) _ L)) (pb_sc _ _ _ _ arg1 harg1 arg2 harg2 arg3 harg3 arg4 harg4 arg5 harg5 arg6 harg6 arg7 harg7 arg8 harg8 arg9 harg9 x0 x1 x2 x3 x4 _ _ _ _)).trans
        ((View.read_writes_eq_canon _ _ _ (cover_allSc arg1 harg1 arg2 harg2 arg3 harg3 arg4 harg4 arg5 harg5 x0 x1 x2 x3 x4)).trans (canon_allSc arg1 harg1 arg2 harg2 arg3 harg3 arg4 harg4 arg5 harg5 x0 x1 x2 x3 x4))
    iexists _, _; isplitr; swap; · iexact HS0
    ipureintro; rfl

/-! ## The pipeline's proof data -/

/-- The proof data of the one pipeline on core `c`: the arrays as the region finds them (`V`); after the body at
    point `t` each input's buffer at its block and the outputs' at the closed forms; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outNr (iblk m c 0 t) (iblk m c 1 t) (iblk m c 2 t) (iblk m c 3 t)
    | ⟨6, _⟩ => outYc (iblk m c 0 t) (iblk m c 1 t) (iblk m c 2 t) (iblk m c 3 t) (iblk m c 4 t)
    | ⟨7, _⟩ => outSc (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outNr (iblk m c 0 t) (iblk m c 1 t) (iblk m c 2 t) (iblk m c 3 t) := by dsimp only [dats]
theorem after0_6 (c : Dev nD) (t : Fin cfg0.N) : (dats m 0 c).after 6 t = outYc (iblk m c 0 t) (iblk m c 1 t) (iblk m c 2 t) (iblk m c 3 t) (iblk m c 4 t) := by dsimp only [dats]
theorem after0_7 (c : Dev nD) (t : Fin cfg0.N) : (dats m 0 c).after 7 t = outSc (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Body.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.Lanes.lean ====
/- The tiles' layout operations read at one index: slices of rows, rows put together, gathers along the lanes, and the values of
   the printed index vectors at a lane. -/
module

public import proofs.«01_k».proof.Proof.Blocks
public import Idealize.ShloMosaic.Lib.Pipeline.Value

@[expose] public section

noncomputable section

namespace Cert.KernelIdeal.Tiles

open Cert.KernelIdeal.Gen
open Idealize.ShloMosaic Idealize.ShloMosaic.TcCoe Idealize.ShloMosaic.Tactic
open Idealize.SL

variable {F : FTy → Type} [FloatOps F]

/-! ## Indices of the small shapes -/

def ix16 (r l : ℕ) : S16x128.Idx := fun a => match a with
  | ⟨0, _⟩ => ⟨r % 16, Nat.mod_lt _ (by decide)⟩ | ⟨1, _⟩ => ⟨l % 128, Nat.mod_lt _ (by decide)⟩
def ixP (r l : ℕ) : S1x32x128.Idx := fun a => match a with
  | ⟨0, _⟩ => ⟨0 % 1, Nat.mod_lt _ (by decide)⟩ | ⟨1, _⟩ => ⟨r % 32, Nat.mod_lt _ (by decide)⟩ | ⟨2, _⟩ => ⟨l % 128, Nat.mod_lt _ (by decide)⟩
def ixS (r g : ℕ) : S1x32x224.Idx := fun a => match a with
  | ⟨0, _⟩ => ⟨0 % 1, Nat.mod_lt _ (by decide)⟩ | ⟨1, _⟩ => ⟨r % 32, Nat.mod_lt _ (by decide)⟩ | ⟨2, _⟩ => ⟨g % 224, Nat.mod_lt _ (by decide)⟩
def ixB (l : ℕ) : S1x128.Idx := fun a => match a with
  | ⟨0, _⟩ => ⟨0 % 1, Nat.mod_lt _ (by decide)⟩ | ⟨1, _⟩ => ⟨l % 128, Nat.mod_lt _ (by decide)⟩
def ixC (r : ℕ) : S8x1.Idx := fun a => match a with
  | ⟨0, _⟩ => ⟨r % 8, Nat.mod_lt _ (by decide)⟩ | ⟨1, _⟩ => ⟨0 % 1, Nat.mod_lt _ (by decide)⟩
def ixR (r : ℕ) : S8.Idx := fun a => match a with
  | ⟨0, _⟩ => ⟨r % 8, Nat.mod_lt _ (by decide)⟩
def ixG (r g : ℕ) : S32x224.Idx := fun a => match a with
  | ⟨0, _⟩ => ⟨r % 32, Nat.mod_lt _ (by decide)⟩ | ⟨1, _⟩ => ⟨g % 224, Nat.mod_lt _ (by decide)⟩
def ix96 (r g : ℕ) : S32x96.Idx := fun a => match a with
  | ⟨0, _⟩ => ⟨r % 32, Nat.mod_lt _ (by decide)⟩ | ⟨1, _⟩ => ⟨g % 96, Nat.mod_lt _ (by decide)⟩
def ixZ (r g : ℕ) : S32x32.Idx := fun a => match a with
  | ⟨0, _⟩ => ⟨r % 32, Nat.mod_lt _ (by decide)⟩ | ⟨1, _⟩ => ⟨g % 32, Nat.mod_lt _ (by decide)⟩

theorem ix16_eq (x : S16x128.Idx) (r l : ℕ) (h0 : (x 0).val = r % 16) (h1 : (x 1).val = l % 128) : x = ix16 r l := by
  funext a; fin_cases a
  · exact Fin.ext h0
  · exact Fin.ext h1

theorem ix32_congr {r r' l l' : ℕ} (h0 : r % 32 = r' % 32) (h1 : l % 128 = l' % 128) : ix32 r l = ix32 r' l' :=
  ix32_eq _ _ _ h0 h1
theorem ix8_congr {r r' l l' : ℕ} (h0 : r % 8 = r' % 8) (h1 : l % 128 = l' % 128) : ix8 r l = ix8 r' l' :=
  ix8_eq _ _ _ h0 h1
theorem ix16_congr {r r' l l' : ℕ} (h0 : r % 16 = r' % 16) (h1 : l % 128 = l' % 128) : ix16 r l = ix16 r' l' :=
  ix16_eq _ _ _ h0 h1

/-! ## Slices and concatenations of rows -/

theorem sl16_apply {α : Type} (k : ℕ) (hk : k < 2) (x : S32x128.Idx → α) (r l : ℕ) (hr : r < 16) :
    sl16 k x (ix16 r l) = x (ix32 (16 * k + r) l) := by
  obtain rfl | rfl : k = 0 ∨ k = 1 := by omega
  · refine extractStridedSlice_apply _ _ slices_S32x128_o0_0_S16x128 _ _ fun a => ?_
    fin_cases a
    · show (16 * 0 + r) % 32 = 0 + r % 16; omega
    · show l % 128 = 0 + l % 128; omega
  · refine extractStridedSlice_apply _ _ slices_S32x128_o16_0_S16x128 _ _ fun a => ?_
    fin_cases a
    · show (16 * 1 + r) % 32 = 16 + r % 16; omega
    · show l % 128 = 0 + l % 128; omega

theorem slq_apply {α : Type} (q : ℕ) (hq : q < 2) (x : S16x128.Idx → α) (r l : ℕ) (hr : r < 8) :
    slq q x (ix8 r l) = x (ix16 (8 * q + r) l) := by
  obtain rfl | rfl : q = 0 ∨ q = 1 := by omega
  · refine extractStridedSlice_apply _ _ slices_S16x128_o0_0_S8x128 _ _ fun a => ?_
    fin_cases a
    · show (8 * 0 + r) % 16 = 0 + r % 8; omega
    · show l % 128 = 0 + l % 128; omega
  · refine extractStridedSlice_apply _ _ slices_S16x128_o8_0_S8x128 _ _ fun a => ?_
    fin_cases a
    · show (8 * 1 + r) % 16 = 8 + r % 8; omega
    · show l % 128 = 0 + l % 128; omega

/-- Four pieces of eight rows put together: row `r` is in piece `r / 8`. -/
theorem four_apply {α : Type} (x : ℕ → S8x128.Idx → α) (h : Shape.Concatenates [S8x128, S8x128, S8x128, S8x128] S32x128 0) (r l : ℕ) (hr : r < 32) :
    concatenate S32x128 0 [⟨S8x128, x 0⟩, ⟨S8x128, x 1⟩, ⟨S8x128, x 2⟩, ⟨S8x128, x 3⟩] h (ix32 r l) = x (r / 8) (ix8 r l) := by
  have key : ∀ (k : ℕ) (hk : k < 4) (hx : ([⟨S8x128, x 0⟩, ⟨S8x128, x 1⟩, ⟨S8x128, x 2⟩, ⟨S8x128, x 3⟩] : List ((s : Shape) × (s.Idx → α)))[k] = ⟨S8x128, x k⟩)
      (hp : ((([⟨S8x128, x 0⟩, ⟨S8x128, x 1⟩, ⟨S8x128, x 2⟩, ⟨S8x128, x 3⟩] : List ((s : Shape) × (s.Idx → α))).take k).map (·.1)
        |>.map fun s => if h : s.rank = S32x128.rank then s.size ((0 : Fin S32x128.rank).cast h.symm) else 0).sum = 8 * k), r / 8 = k →
      concatenate S32x128 0 [⟨S8x128, x 0⟩, ⟨S8x128, x 1⟩, ⟨S8x128, x 2⟩, ⟨S8x128, x 3⟩] h (ix32 r l) = x k (ix8 r l) := by
    intro k hk hx hp e
    refine concatenate_apply_piece (0 : Fin S32x128.rank) [⟨S8x128, x 0⟩, ⟨S8x128, x 1⟩, ⟨S8x128, x 2⟩, ⟨S8x128, x 3⟩] h _ k hk S8x128 (x k) hx rfl (8 * k) hp (ix8 r l) (fun b hb => ?_) ?_
    · fin_cases b
      · exact absurd rfl hb
      · rfl
    · show 8 * k + r % 8 = r % 32
      omega
  obtain e | e | e | e : r / 8 = 0 ∨ r / 8 = 1 ∨ r / 8 = 2 ∨ r / 8 = 3 := by omega
  all_goals rw [e]
  · exact key 0 (by decide) rfl rfl e
  · exact key 1 (by decide) rfl rfl e
  · exact key 2 (by decide) rfl rfl e
  · exact key 3 (by decide) rfl rfl e

/-- Row vectors and column vectors spread over a tile. -/
theorem bcastB_apply {α : Type} (x : S1x128.Idx → α) (h : S1x128.Broadcasts S32x128) (r l : ℕ) : broadcastTo S32x128 x h (ix32 r l) = x (ixB l) := by
  refine broadcastTo_apply _ _ _ _ fun a => ?_
  fin_cases a <;> rfl
theorem bcastC_apply {α : Type} (x : S8x1.Idx → α) (h : S8x1.Broadcasts S8x128) (r l : ℕ) : broadcastTo S8x128 x h (ix8 r l) = x (ixC r) := by
  refine broadcastTo_apply _ _ _ _ fun a => ?_
  fin_cases a <;> rfl

theorem castP_apply {α : Type} (x : S1x32x128.Idx → α) (h : S1x32x128.ShapeCasts S32x128) (r l : ℕ) : shapeCast S32x128 x h (ix32 r l) = x (ixP r l) := by
  refine shapeCast_apply _ _ _ _ ?_
  rw [Shape.rowMajor_val_three, Shape.rowMajor_val_two]
  show (0 * 32 + r % 32) * 128 + l % 128 = r % 32 * 128 + l % 128
  omega
theorem castS_apply {α : Type} (x : S1x32x224.Idx → α) (h : S1x32x224.ShapeCasts S32x224) (r l : ℕ) : shapeCast S32x224 x h (ixG r l) = x (ixS r l) := by
  refine shapeCast_apply _ _ _ _ ?_
  rw [Shape.rowMajor_val_three, Shape.rowMajor_val_two]
  show (0 * 32 + r % 32) * 224 + l % 224 = r % 32 * 224 + l % 224
  omega

/-- The two halves of a shard's scales: group `128 h + g`. -/
theorem half_apply (S : ℕ → Vec F S1x32x224 .f32) (p h r g : ℕ) (hh : h < 2) (hg : g < 128) (hlt : 128 * h + g < 224) :
    half S p h (ix32 r g) = S p (ixS r (128 * h + g)) := by
  obtain rfl | rfl : h = 0 ∨ h = 1 := by omega
  · refine (extractStridedSlice_apply _ _ slices_S32x224_o0_0_S32x128 _ (ixG r g) fun a => ?_).trans ((castS_apply (S p) shapeCasts_S1x32x224_S32x224 r g).trans ?_)
    · fin_cases a
      · show r % 32 = 0 + r % 32; omega
      · show g % 224 = 0 + g % 128; omega
    · rw [show 128 * 0 + g = g by omega]
  · show concatenate S32x128 1 [⟨S32x96, extractStridedSlice S32x96 ![0, 128] (shapeCast S32x224 (S p) shapeCasts_S1x32x224_S32x224) slices_S32x224_o0_128_S32x96⟩,
      ⟨S32x32, broadcast S32x32 (Scalar.ofBits .f32 0x00000000#32)⟩] concatenates_S32x96_S32x32_S32x128_d1 (ix32 r g) = _
    refine (concatenate_pair_apply_left (t := S32x128) (s₁ := S32x96) (s₂ := S32x32) 1 _ _ concatenates_S32x96_S32x32_S32x128_d1 (ix32 r g) rfl (ix96 r g) fun b => ?_).trans
      ((extractStridedSlice_apply _ _ slices_S32x224_o0_128_S32x96 _ (ixG r (128 * 1 + g)) fun a => ?_).trans (castS_apply (S p) shapeCasts_S1x32x224_S32x224 r _))
    · fin_cases b
      · rfl
      · show g % 96 = g % 128; omega
    · fin_cases a
      · show r % 32 = 0 + r % 32; omega
      · show (128 * 1 + g) % 224 = 128 + g % 96; omega

/-! ## Gathers -/

theorem gat8_apply (x : FVec F S8x128 .f32) (v : IVec S8x128 32) (r l L : ℕ) (h : (wrap v (ix8 r l)).toNat % 128 = L % 128) :
    gat8 x v (ix8 r l) = x (ix8 r L) := by
  unfold gat8 dynamicGather
  rw [shapeCast_shapeCast]
  refine congrArg x (funext fun a => Fin.ext ?_)
  fin_cases a
  · rfl
  · exact h
theorem gat16_apply (x : FVec F S16x128 .f32) (v : IVec S16x128 32) (r l L : ℕ) (h : (wrap v (ix16 r l)).toNat % 128 = L % 128) :
    gat16 x v (ix16 r l) = x (ix16 r L) := by
  unfold gat16 dynamicGather
  rw [shapeCast_shapeCast]
  refine congrArg x (funext fun a => Fin.ext ?_)
  fin_cases a
  · rfl
  · exact h

/-! ## The index vectors at a lane -/

/-- A shape of one element, over which an elementwise operation is read at one lane. -/
abbrev One : Shape := ⟨0, ![]⟩
abbrev o1 : One.Idx := fun a => a.elim0

theorem wrap_nat (n : ℕ) (h : n < 128) {s : Shape} (v : IVec s 32) (y : s.Idx) (e : v y = BitVec.ofNat 32 n) : (wrap v y).toNat % 128 = n % 128 := by
  have key : ∀ n : Fin 128, (wrap (s := One) (fun _ => BitVec.ofNat 32 n.val) o1).toNat % 128 = n.val % 128 := by decide +kernel
  rw [show wrap v y = wrap (s := One) (fun _ => v y) o1 from rfl, e]
  exact key ⟨n, h⟩

theorem lane8_apply (r l : ℕ) : lane8 (ix8 r l) = BitVec.ofNat 32 (l % 128) := by
  show BitVec.ofNat 32 (0 * _ + l % 128) = _
  rw [Nat.zero_mul, Nat.zero_add]
theorem lane16_apply (r l : ℕ) : lane16 (ix16 r l) = BitVec.ofNat 32 (l % 128) := by
  show BitVec.ofNat 32 (0 * _ + l % 128) = _
  rw [Nat.zero_mul, Nat.zero_add]

theorem floorDiv_nat (n : ℕ) (h : n < 128) {s : Shape} (v : IVec s 32) (y : s.Idx) (e : v y = BitVec.ofNat 32 n) :
    floorDiv v 32#32 y = BitVec.ofNat 32 (n / 32) := by
  have key : ∀ n : Fin 128, floorDiv (s := One) (fun _ => BitVec.ofNat 32 n.val) 32#32 o1 = BitVec.ofNat 32 (n.val / 32) := by decide +kernel
  rw [show floorDiv v 32#32 y = floorDiv (s := One) (fun _ => v y) 32#32 o1 from rfl, e]
  exact key ⟨n, h⟩

theorem idx16_apply (jj r l : ℕ) (hl : l < 128) : idx16 jj (ix16 r l) = BitVec.ofNat 32 (l / 32 + 4 * jj) := by
  show floorDiv lane16 32#32 (ix16 r l) + BitVec.ofNat 32 (4 * jj) = _
  rw [floorDiv_nat l hl lane16 _ (by rw [lane16_apply, Nat.mod_eq_of_lt hl]), BitVec.ofNat_add]

end Cert.KernelIdeal.Tiles

end
-- ==== Proof.Result.lean ====
/- The three results after a run, in closed form over the five arguments. The 6144 rows (batch by position) fall into 192 tiles of
   32 rows, four to a block; row `n` belongs to tile `n / 32`, column `d` to the tile of lanes `d / 128`. -/
module

public import proofs.«01_k».proof.Proof.Run
public import Idealize.ShloMosaic.Lib.Pipeline.ValueKit

@[expose] public section

noncomputable section

namespace Cert.KernelIdeal.Result

open Cert.KernelIdeal Cert.KernelIdeal.Gen Cert.KernelIdeal.Tiles Cert.KernelIdeal.Body
open Idealize.ShloMosaic Idealize.ShloMosaic.TcCoe Idealize.ShloMosaic.Tactic
open Idealize.SL Idealize.SL.RA Idealize.SL.BI Idealize.SL.Sem

variable {F : FTy → Type} [FloatOps F]

/-! ## Indices of the arguments, from plain numbers -/

/-- Shard `p`, row `n`, column `d`. -/
def i4P (p n d : ℕ) : S4x3x2048x7168.Idx := fun a => match a with
  | ⟨0, _⟩ => ⟨p % 4, Nat.mod_lt _ (by decide)⟩ | ⟨1, _⟩ => ⟨n / 2048 % 3, Nat.mod_lt _ (by decide)⟩
  | ⟨2, _⟩ => ⟨n % 2048, Nat.mod_lt _ (by decide)⟩ | ⟨3, _⟩ => ⟨d % 7168, Nat.mod_lt _ (by decide)⟩
/-- Shard `p`, row `n`, group `g`. -/
def i4S (p n g : ℕ) : S4x3x2048x224.Idx := fun a => match a with
  | ⟨0, _⟩ => ⟨p % 4, Nat.mod_lt _ (by decide)⟩ | ⟨1, _⟩ => ⟨n / 2048 % 3, Nat.mod_lt _ (by decide)⟩
  | ⟨2, _⟩ => ⟨n % 2048, Nat.mod_lt _ (by decide)⟩ | ⟨3, _⟩ => ⟨g % 224, Nat.mod_lt _ (by decide)⟩
/-- Row `n`, column `d`. -/
def i3 (n d : ℕ) : S3x2048x7168.Idx := fun a => match a with
  | ⟨0, _⟩ => ⟨n / 2048 % 3, Nat.mod_lt _ (by decide)⟩
  | ⟨1, _⟩ => ⟨n % 2048, Nat.mod_lt _ (by decide)⟩ | ⟨2, _⟩ => ⟨d % 7168, Nat.mod_lt _ (by decide)⟩
/-- Column `d`. -/
def i1 (d : ℕ) : S7168.Idx := fun a => match a with
  | ⟨0, _⟩ => ⟨d % 7168, Nat.mod_lt _ (by decide)⟩

/-! ## The tiles of the arguments -/

section Args
variable (a0 : Vec F S4x3x2048x7168 .fp8e4m3) (a1 : Vec F S4x3x2048x224 .f32) (a2 : Vec F S7168 .f32) (a3 : Vec F S3x2048x7168 .bf16) (a4 : Vec F S7168 .f32)

def tP (T p j : ℕ) : Vec F S1x32x128 .fp8e4m3 := fun y => a0 (i4P p (32 * T + (y 1).val) (128 * (j % 56) + (y 2).val))
def tS (T p : ℕ) : Vec F S1x32x224 .f32 := fun y => a1 (i4S p (32 * T + (y 1).val) (y 2).val)
def tV (a : Vec F S7168 .f32) (j : ℕ) : Vec F S1x128 .f32 := fun y => a (i1 (128 * (j % 56) + (y 1).val))
def tX (T j : ℕ) : Vec F S32x128 .bf16 := fun y => a3 (i3 (32 * T + (y 0).val) (128 * (j % 56) + (y 1).val))

/-- The residual at row `n`, column `d`; the code there; the scale of row `n`, group `g`. -/
def atNr (n d : ℕ) : F .bf16 := nr (tP a0 (n / 32)) (tS a1 (n / 32)) (tV a2) (tX a3 (n / 32)) (d / 128) (ix32 n d)
def atYc (n d : ℕ) : F .fp8e4m3 := codes (tP a0 (n / 32)) (tS a1 (n / 32)) (tV a2) (tX a3 (n / 32)) (tV a4) (d / 128) (ix32 n d)
def atSc (n g : ℕ) : F .f32 := scl (tP a0 (n / 32)) (tS a1 (n / 32)) (tV a2) (tX a3 (n / 32)) (tV a4) (g / 128) (n % 32 / 8) (ix8 n g)

/-- The same, as the kernel's arrays of 6144 rows. -/
def arrNr : Vec F S6144x7168 .bf16 := fun y => atNr a0 a1 a2 a3 (y 0).val (y 1).val
def arrYc : Vec F S6144x7168 .fp8e4m3 := fun y => atYc a0 a1 a2 a3 a4 (y 0).val (y 1).val
def arrSc : Vec F S6144x224 .f32 := fun y => atSc a0 a1 a2 a3 a4 (y 0).val (y 1).val

/-- And as the results. -/
def resNr : Vec F S3x2048x7168 .bf16 := fun y => atNr a0 a1 a2 a3 (2048 * (y 0).val + (y 1).val) (y 2).val
def resYc : Vec F S3x2048x7168 .fp8e4m3 := fun y => atYc a0 a1 a2 a3 a4 (2048 * (y 0).val + (y 1).val) (y 2).val
def resSc : Vec F S3x2048x224 .f32 := fun y => atSc a0 a1 a2 a3 a4 (2048 * (y 0).val + (y 1).val) (y 2).val

/-! ## The reshapes before the launch -/

theorem cast0 (h : S4x3x2048x7168.ShapeCasts S4x6144x7168) (z : S4x6144x7168.Idx) :
    shapeCast S4x6144x7168 a0 h z = a0 (i4P (z 0).val (z 1).val (z 2).val) := by
  have h0 : (z 0).val < 4 := (z 0).isLt; have h1 : (z 1).val < 6144 := (z 1).isLt; have h2 : (z 2).val < 7168 := (z 2).isLt
  refine shapeCast_apply _ _ _ _ ?_
  rw [Shape.rowMajor_val_four, Shape.rowMajor_val_three]
  show ((((z 0).val % 4) * 3 + (z 1).val / 2048 % 3) * 2048 + (z 1).val % 2048) * 7168 + (z 2).val % 7168 = ((z 0).val * 6144 + (z 1).val) * 7168 + (z 2).val
  omega
theorem cast1 (h : S4x3x2048x224.ShapeCasts S4x6144x224) (z : S4x6144x224.Idx) :
    shapeCast S4x6144x224 a1 h z = a1 (i4S (z 0).val (z 1).val (z 2).val) := by
  have h0 : (z 0).val < 4 := (z 0).isLt; have h1 : (z 1).val < 6144 := (z 1).isLt; have h2 : (z 2).val < 224 := (z 2).isLt
  refine shapeCast_apply _ _ _ _ ?_
  rw [Shape.rowMajor_val_four, Shape.rowMajor_val_three]
  show ((((z 0).val % 4) * 3 + (z 1).val / 2048 % 3) * 2048 + (z 1).val % 2048) * 224 + (z 2).val % 224 = ((z 0).val * 6144 + (z 1).val) * 224 + (z 2).val
  omega
theorem cast2 (a : Vec F S7168 .f32) (h : S7168.ShapeCasts S1x7168) (z : S1x7168.Idx) : shapeCast S1x7168 a h z = a (i1 (z 1).val) := by
  have h0 : (z 0).val < 1 := (z 0).isLt; have h1 : (z 1).val < 7168 := (z 1).isLt
  refine shapeCast_apply _ _ _ _ ?_
  rw [Shape.rowMajor_val_two, Shape.rowMajor_val_one]
  show (z 1).val % 7168 = (z 0).val * 7168 + (z 1).val
  omega
theorem cast3 (h : S3x2048x7168.ShapeCasts S6144x7168) (z : S6144x7168.Idx) : shapeCast S6144x7168 a3 h z = a3 (i3 (z 0).val (z 1).val) := by
  have h0 : (z 0).val < 6144 := (z 0).isLt; have h1 : (z 1).val < 7168 := (z 1).isLt
  refine shapeCast_apply _ _ _ _ ?_
  rw [Shape.rowMajor_val_three, Shape.rowMajor_val_two]
  show ((z 0).val / 2048 % 3 * 2048 + (z 0).val % 2048) * 7168 + (z 1).val % 7168 = (z 0).val * 7168 + (z 1).val
  omega

/-- An index of 6144 rows, from batch and position. -/
theorem cast_out {α : Type} (G : ℕ → ℕ → α) (h : S6144x7168.ShapeCasts S3x2048x7168) :
    shapeCast S3x2048x7168 (fun y : S6144x7168.Idx => G (y 0).val (y 1).val) h = fun y => G (2048 * (y 0).val + (y 1).val) (y 2).val := by
  funext y
  have h0 : (y 0).val < 3 := (y 0).isLt; have h1 : (y 1).val < 2048 := (y 1).isLt; have h2 : (y 2).val < 7168 := (y 2).isLt
  refine shapeCast_apply _ _ _ (show S6144x7168.Idx from fun a => match a with
    | ⟨0, _⟩ => ⟨2048 * (y 0).val + (y 1).val, by show _ < 6144; omega⟩ | ⟨1, _⟩ => ⟨(y 2).val, by show _ < 7168; omega⟩) ?_
  rw [Shape.rowMajor_val_three, Shape.rowMajor_val_two]
  show (2048 * (y 0).val + (y 1).val) * 7168 + (y 2).val = ((y 0).val * 2048 + (y 1).val) * 7168 + (y 2).val
  omega
theorem cast_out_sc {α : Type} (G : ℕ → ℕ → α) (h : S6144x224.ShapeCasts S3x2048x224) :
    shapeCast S3x2048x224 (fun y : S6144x224.Idx => G (y 0).val (y 1).val) h = fun y => G (2048 * (y 0).val + (y 1).val) (y 2).val := by
  funext y
  have h0 : (y 0).val < 3 := (y 0).isLt; have h1 : (y 1).val < 2048 := (y 1).isLt; have h2 : (y 2).val < 224 := (y 2).isLt
  refine shapeCast_apply _ _ _ (show S6144x224.Idx from fun a => match a with
    | ⟨0, _⟩ => ⟨2048 * (y 0).val + (y 1).val, by show _ < 6144; omega⟩ | ⟨1, _⟩ => ⟨(y 2).val, by show _ < 224; omega⟩) ?_
  rw [Shape.rowMajor_val_three, Shape.rowMajor_val_two]
  show (2048 * (y 0).val + (y 1).val) * 224 + (y 2).val = ((y 0).val * 2048 + (y 1).val) * 224 + (y 2).val
  omega

end Args

/-! ## The arrays as the launch finds them -/

variable (m : (ℓ : Loc nD τ sig) → Buf (Elt F) ℓ) (ρ : Dev nD → PrngReg) (c : Dev nD)

abbrev A0 : Vec F S4x3x2048x7168 .fp8e4m3 := m ((c : Thread nD τ).loc main_arg0)
abbrev A1 : Vec F S4x3x2048x224 .f32 := m ((c : Thread nD τ).loc main_arg1)
abbrev A2 : Vec F S7168 .f32 := m ((c : Thread nD τ).loc main_arg2)
abbrev A3 : Vec F S3x2048x7168 .bf16 := m ((c : Thread nD τ).loc main_arg3)
abbrev A4 : Vec F S7168 .f32 := m ((c : Thread nD τ).loc main_arg4)

theorem V_v0 : V m c main_v0 = shapeCast S4x6144x7168 (A0 m c) shapeCasts_S4x3x2048x7168_S4x6144x7168 := by
  delta V V0 hostOps0; simp only [List.flatten_cons, List.flatten_nil, List.append_nil]; after_results; rfl
theorem V_v1 : V m c main_v1 = shapeCast S4x6144x224 (A1 m c) shapeCasts_S4x3x2048x224_S4x6144x224 := by
  delta V V0 hostOps0; simp only [List.flatten_cons, List.flatten_nil, List.append_nil]; after_results; rfl
theorem V_v2 : V m c main_v2 = shapeCast S6144x7168 (A3 m c) shapeCasts_S3x2048x7168_S6144x7168 := by
  delta V V0 hostOps0; simp only [List.flatten_cons, List.flatten_nil, List.append_nil]; after_results; rfl
theorem V_v3 : V m c main_v3 = shapeCast S1x7168 (A2 m c) shapeCasts_S7168_S1x7168 := by
  delta V V0 hostOps0; simp only [List.flatten_cons, List.flatten_nil, List.append_nil]; after_results; rfl
theorem V_v4 : V m c main_v4 = shapeCast S1x7168 (A4 m c) shapeCasts_S7168_S1x7168 := by
  delta V V0 hostOps0; simp only [List.flatten_cons, List.flatten_nil, List.append_nil]; after_results; rfl

/-! ## The input blocks' tiles are the arguments' -/

theorem ix0 : ∀ t : Fin cfg0.N, win0_0.index t = ![0, t.val, 0] := (by decide +kernel : ∀ t : Fin grid0.N, _)
theorem ix1 : ∀ t : Fin cfg0.N, win0_1.index t = ![0, t.val, 0] := (by decide +kernel : ∀ t : Fin grid0.N, _)
theorem ix2 : ∀ t : Fin cfg0.N, win0_2.index t = ![0, 0] := (by decide +kernel : ∀ t : Fin grid0.N, _)
theorem ix3 : ∀ t : Fin cfg0.N, win0_3.index t = ![t.val, 0] := (by decide +kernel : ∀ t : Fin grid0.N, _)
theorem ix4 : ∀ t : Fin cfg0.N, win0_4.index t = ![0, 0] := (by decide +kernel : ∀ t : Fin grid0.N, _)
theorem ix5 : ∀ t : Fin cfg0.N, win0_5.index t = ![t.val, 0] := (by decide +kernel : ∀ t : Fin grid0.N, _)
theorem ix6 : ∀ t : Fin cfg0.N, win0_6.index t = ![t.val, 0] := (by decide +kernel : ∀ t : Fin grid0.N, _)
theorem ix7 : ∀ t : Fin cfg0.N, win0_7.index t = ![t.val, 0] := (by decide +kernel : ∀ t : Fin grid0.N, _)

variable (t : Fin cfg0.N) (k : Fin k0_t1_loop.trips)

/-- A load's index in its block. -/
theorem unit_idx {s : Shape} (off size : Fin s.rank → ℕ) (inb) (y : (Rect.unit (s := s) off size inb).shape.Idx) (a : Fin s.rank) :
    ((Rect.unit (s := s) off size inb).idx y a).val = off a + (y a).val := by
  show off a + 1 * (y a).val = _; omega

theorem i4P_congr {p p' n n' d d' : ℕ} (hp : p % 4 = p' % 4) (hn : n = n') (hd : d = d') : i4P p n d = i4P p' n' d' := by
  subst hn; subst hd; funext a; fin_cases a
  · exact Fin.ext hp
  all_goals rfl
theorem i4S_congr {p p' n n' d d' : ℕ} (hp : p % 4 = p' % 4) (hn : n = n') (hd : d = d') : i4S p n d = i4S p' n' d' := by
  subst hn; subst hd; funext a; fin_cases a
  · exact Fin.ext hp
  all_goals rfl

theorem bP_eq (p j : ℕ) : bP (iblk m c 0 t) k p j = tP (A0 m c) (4 * t.val + k.val) p j := by
  have hr := row0_eq k
  funext y
  have h0 : (y 0).val < 1 := (y 0).isLt
  unfold bP tP
  rw [View.ld_apply]
  blk_simp [iblk]
  show V m c main_v0 _ = _
  rw [V_v0, cast0]
  blk_simp [ix0]
  refine congrArg (A0 m c) (i4P_congr ?_ ?_ ?_)
  · rw [unit_idx]; show (p % 4 + (y 0).val) % 4 = _; omega
  · rw [unit_idx]; show t.val * 128 + (row0 k + (y 1).val) = _; omega
  · rw [unit_idx]; rfl

theorem bS_eq (p : ℕ) : bS (iblk m c 1 t) k p = tS (A1 m c) (4 * t.val + k.val) p := by
  have hr := row0_eq k
  funext y
  have h0 : (y 0).val < 1 := (y 0).isLt
  unfold bS tS
  rw [View.ld_apply]
  blk_simp [iblk]
  show V m c main_v1 _ = _
  rw [V_v1, cast1]
  blk_simp [ix1]
  refine congrArg (A1 m c) (i4S_congr ?_ ?_ ?_)
  · rw [unit_idx]; show (p % 4 + (y 0).val) % 4 = _; omega
  · rw [unit_idx]; show t.val * 128 + (row0 k + (y 1).val) = _; omega
  · rw [unit_idx]; show 0 + (y 2).val = _; omega

theorem bB_eq (j : ℕ) : bV (iblk m c 2 t) j = tV (A2 m c) j := by
  funext y
  unfold bV tV
  rw [View.ld_apply]
  blk_simp [iblk]
  show V m c main_v3 _ = _
  rw [V_v3, cast2]
  blk_simp [ix2]
  rw [unit_idx]; rfl

theorem bG_eq (j : ℕ) : bV (iblk m c 4 t) j = tV (A4 m c) j := by
  funext y
  unfold bV tV
  rw [View.ld_apply]
  blk_simp [iblk]
  show V m c main_v4 _ = _
  rw [V_v4, cast2]
  blk_simp [ix4]
  rw [unit_idx]; rfl

theorem bX_eq (j : ℕ) : bX (iblk m c 3 t) k j = tX (A3 m c) (4 * t.val + k.val) j := by
  have hr := row0_eq k
  funext y
  unfold bX tX
  rw [View.ld_apply]
  blk_simp [iblk]
  show V m c main_v2 _ = _
  rw [V_v2, cast3]
  blk_simp [ix3]
  rw [unit_idx, unit_idx]
  refine congrArg (A3 m c) (congrArg₂ i3 ?_ rfl)
  show t.val * 128 + (row0 k + (y 0).val) = _; omega

/-! ## The output arrays after the run -/

theorem ix32_add (t r l : ℕ) : ix32 (t * 128 + r) l = ix32 r l := by
  refine ix32_eq _ _ _ ?_ rfl
  show (t * 128 + r) % 32 = _; omega
theorem ix8_add (t r l : ℕ) : ix8 (t * 128 + r) l = ix8 r l := by
  refine ix8_eq _ _ _ ?_ rfl
  show (t * 128 + r) % 8 = _; omega

theorem tile_eq (T : ℕ) (h : 4 * t.val + k.val = T) :
    bP (iblk m c 0 t) k = tP (A0 m c) T ∧ bS (iblk m c 1 t) k = tS (A1 m c) T ∧ bV (iblk m c 2 t) = tV (A2 m c)
      ∧ bX (iblk m c 3 t) k = tX (A3 m c) T ∧ bV (iblk m c 4 t) = tV (A4 m c) := by
  subst h
  exact ⟨funext fun p => funext fun j => bP_eq m c t k p j, funext fun p => bS_eq m c t k p, funext fun j => bB_eq m c t j,
    funext fun j => bX_eq m c t k j, funext fun j => bG_eq m c t j⟩

theorem final5 : (dats m 0 c).arrAt 5 cfg0.N = arrNr (A0 m c) (A1 m c) (A2 m c) (A3 m c) := by
  refine (dats m 0 c).arrAt_eq_of_covers 5 _ (by decide +kernel) fun t hf y => ?_
  have h0 : (y 0).val < 128 := (y 0).isLt
  blk_simp
  rw [after0_5]
  unfold outNr arrNr atNr
  blk_simp [ix5]
  obtain ⟨e0, e1, e2, e3, -⟩ := tile_eq m c t (tripOf (y 0).val h0) ((t.val * 128 + (y 0).val) / 32)
    (by show 4 * t.val + (y 0).val / 32 = _; omega)
  erw [e0, e1, e2, e3, ix32_add]

theorem final6 : (dats m 0 c).arrAt 6 cfg0.N = arrYc (A0 m c) (A1 m c) (A2 m c) (A3 m c) (A4 m c) := by
  refine (dats m 0 c).arrAt_eq_of_covers 6 _ (by decide +kernel) fun t hf y => ?_
  have h0 : (y 0).val < 128 := (y 0).isLt
  blk_simp
  rw [after0_6]
  unfold outYc arrYc atYc
  blk_simp [ix6]
  obtain ⟨e0, e1, e2, e3, e4⟩ := tile_eq m c t (tripOf (y 0).val h0) ((t.val * 128 + (y 0).val) / 32)
    (by show 4 * t.val + (y 0).val / 32 = _; omega)
  erw [e0, e1, e2, e3, e4, ix32_add]

theorem final7 : (dats m 0 c).arrAt 7 cfg0.N = arrSc (A0 m c) (A1 m c) (A2 m c) (A3 m c) (A4 m c) := by
  refine (dats m 0 c).arrAt_eq_of_covers 7 _ (by decide +kernel) fun t hf y => ?_
  have h0 : (y 0).val < 128 := (y 0).isLt
  blk_simp
  rw [after0_7]
  unfold outSc arrSc atSc
  blk_simp [ix7]
  obtain ⟨e0, e1, e2, e3, e4⟩ := tile_eq m c t (tripOf (y 0).val h0) ((t.val * 128 + (y 0).val) / 32)
    (by show 4 * t.val + (y 0).val / 32 = _; omega)
  erw [e0, e1, e2, e3, e4, ix8_add, show (t.val * 128 + (y 0).val) % 32 = (y 0).val % 32 by omega]

/-! ## The results after the run -/

theorem arr_inj : Function.Injective (Pipeline.arrRef spec0) := by
  intro a b h; revert a b; decide

theorem W_v6 : Pipeline.afterTail₀ cfgs (dats m) 0 (V0 m) [hostOps1] c main_v6 = resNr (A0 m c) (A1 m c) (A2 m c) (A3 m c) := by
  unfold Pipeline.afterTail₀
  delta hostOps1; simp only [List.flatten_cons, List.flatten_nil, List.append_nil]; after_results
  refine Eq.trans ?_ (cast_out (atNr (A0 m c) (A1 m c) (A2 m c) (A3 m c)) shapeCasts_S6144x7168_S3x2048x7168)
  have e := (Pipeline.withArrays_arr spec0 arr_inj c (V0 m c) (fun w => (dats m 0 c).arrAt w cfg0.N) 5).trans (final5 m c)
  exact congrArg (fun x => shapeCast S3x2048x7168 x shapeCasts_S6144x7168_S3x2048x7168) e

theorem W_v7 : Pipeline.afterTail₀ cfgs (dats m) 0 (V0 m) [hostOps1] c main_v7 = resYc (A0 m c) (A1 m c) (A2 m c) (A3 m c) (A4 m c) := by
  unfold Pipeline.afterTail₀
  delta hostOps1; simp only [List.flatten_cons, List.flatten_nil, List.append_nil]; after_results
  refine Eq.trans ?_ (cast_out (atYc (A0 m c) (A1 m c) (A2 m c) (A3 m c) (A4 m c)) shapeCasts_S6144x7168_S3x2048x7168)
  have e := (Pipeline.withArrays_arr spec0 arr_inj c (V0 m c) (fun w => (dats m 0 c).arrAt w cfg0.N) 6).trans (final6 m c)
  exact congrArg (fun x => shapeCast S3x2048x7168 x shapeCasts_S6144x7168_S3x2048x7168) e

theorem W_v8 : Pipeline.afterTail₀ cfgs (dats m) 0 (V0 m) [hostOps1] c main_v8 = resSc (A0 m c) (A1 m c) (A2 m c) (A3 m c) (A4 m c) := by
  unfold Pipeline.afterTail₀
  delta hostOps1; simp only [List.flatten_cons, List.flatten_nil, List.append_nil]; after_results
  refine Eq.trans ?_ (cast_out_sc (atSc (A0 m c) (A1 m c) (A2 m c) (A3 m c) (A4 m c)) shapeCasts_S6144x224_S3x2048x224)
  have e := (Pipeline.withArrays_arr spec0 arr_inj c (V0 m c) (fun w => (dats m 0 c).arrAt w cfg0.N) 7).trans (final7 m c)
  exact congrArg (fun x => shapeCast S3x2048x224 x shapeCasts_S6144x224_S3x2048x224) e

theorem run : θ_run defs (onTc (τ := τ) (main (F := F))) ⟨m, fun _ => 0, ρ⟩ fun r => ∀ c : Dev nD,
      r.2.mem ((c : Thread nD τ).loc main_v6) = resNr (A0 m c) (A1 m c) (A2 m c) (A3 m c)
      ∧ r.2.mem ((c : Thread nD τ).loc main_v7) = resYc (A0 m c) (A1 m c) (A2 m c) (A3 m c) (A4 m c)
      ∧ r.2.mem ((c : Thread nD τ).loc main_v8) = resSc (A0 m c) (A1 m c) (A2 m c) (A3 m c) (A4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).2 main_v6 (Pipeline.mem_restRefs_of main_v6 (by decide) (by decide))).trans (W_v6 m c),
    ((h c).2 main_v7 (Pipeline.mem_restRefs_of main_v7 (by decide) (by decide))).trans (W_v7 m c),
    ((h c).2 main_v8 (Pipeline.mem_restRefs_of main_v8 (by decide) (by decide))).trans (W_v8 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩)
    (run_main m ρ)

end Cert.KernelIdeal.Result

end
-- ==== Proof.Residual.lean ====
/- The new residual over the extended reals: at row `r` of a tile and lane `l` of tile `j`, the sum over the four shards of code times
   the scale of group `4 j + l / 32`, plus the bias, plus the old residual. -/
module

public import proofs.«01_k».proof.Proof.Lanes
public import proofs.«01_k».proof.Proof.Result
public import Idealize.ShloMosaic.PureOps.Ideal.Laws

@[expose] public section

noncomputable section

namespace Cert.KernelIdeal.Tiles

open Cert.KernelIdeal.Gen Cert.KernelIdeal.Result
open Idealize.ShloMosaic Idealize.ShloMosaic.TcCoe Idealize.ShloMosaic.Tactic
open Idealize.SL

section First
variable (P : ℕ → ℕ → Vec Ideal S1x32x128 .fp8e4m3) (S : ℕ → Vec Ideal S1x32x224 .f32) (B : ℕ → Vec Ideal S1x128 .f32)
  (X : ℕ → Vec Ideal S32x128 .bf16)

/-- Shard `p`'s value: its code times the scale of the code's group. -/
def val (p j r l : ℕ) : EReal := P p j (ixP r l) * S p (ixS r (4 * j + l / 32))

theorem packed_apply (p h kk r g : ℕ) (hk : kk < 2) (hr : r < 16) (hh : h < 2) (hg : g < 128) (hlt : 128 * h + g < 224) :
    packed S p h kk (ix16 r g) = S p (ixS (16 * kk + r) (128 * h + g)) := by
  show sl16 kk (truncf .bf16 (half S p h) bitsLt_bf16_f32) (ix16 r g) = _
  rw [sl16_apply kk hk _ r g hr]
  exact half_apply S p h (16 * kk + r) g hh hg hlt

theorem deq_apply (p j kk r l : ℕ) (hj : j < 56) (hk : kk < 2) (hr : r < 16) (hl : l < 128) :
    deq P S p j kk (ix16 r l) = val P S p j (16 * kk + r) l := by
  have e1 : sl16 kk (extf .bf16 (shapeCast S32x128 (P p j) shapeCasts_S1x32x128_S32x128 : FVec Ideal S32x128 .fp8e4m3) bitsLt_fp8e4m3_bf16) (ix16 r l) = P p j (ixP (16 * kk + r) l) := by
    rw [sl16_apply kk hk _ r l hr]
    exact castP_apply (P p j) shapeCasts_S1x32x128_S32x128 (16 * kk + r) l
  have e2 : gat16 (packed S p (j / 32) kk) (idx16 (j % 32)) (ix16 r l) = S p (ixS (16 * kk + r) (4 * j + l / 32)) := by
    rw [gat16_apply _ _ r l (l / 32 + 4 * (j % 32)) (wrap_nat _ (by omega) _ _ (idx16_apply (j % 32) r l hl)),
      packed_apply S p (j / 32) kk r _ hk hr (by omega) (by omega) (by omega)]
    rw [show 128 * (j / 32) + (l / 32 + 4 * (j % 32)) = 4 * j + l / 32 by omega]
  exact congrArg₂ (fun x y : EReal => x * y) e1 e2

theorem acc_apply (j i r l : ℕ) (hj : j < 56) (hi : i < 4) (hr : r < 8) (hl : l < 128) :
    acc P S j i (ix8 r l) = val P S 0 j (8 * i + r) l + val P S 1 j (8 * i + r) l + val P S 2 j (8 * i + r) l + val P S 3 j (8 * i + r) l := by
  have e : ∀ p, slq (i % 2) (deq P S p j (i / 2)) (ix8 r l) = val P S p j (8 * i + r) l := fun p => by
    rw [slq_apply (i % 2) (by omega) _ r l hr, deq_apply P S p j (i / 2) _ l hj (by omega) (by omega) hl]
    rw [show 16 * (i / 2) + (8 * (i % 2) + r) = 8 * i + r by omega]
  show (_ + _ + _ + _ : EReal) = _
  rw [e 0, e 1, e 2, e 3]

theorem nr_apply (j r l : ℕ) (hj : j < 56) (hr : r < 32) (hl : l < 128) :
    nr P S B X j (ix32 r l) = val P S 0 j r l + val P S 1 j r l + val P S 2 j r l + val P S 3 j r l + B j (ixB l) + X j (ix32 r l) := by
  have e1 := (four_apply (fun i => acc P S j i) concatenates_S8x128_S8x128_S8x128_S8x128_S32x128_d0 r l hr)
  have e2 : acc P S j (r / 8) (ix8 r l) = _ := (congrArg _ (ix8_congr (r' := r % 8) (l' := l) (by omega) rfl)).trans (acc_apply P S j (r / 8) (r % 8) l hj (by omega) (by omega) hl)
  rw [show 8 * (r / 8) + r % 8 = r by omega] at e2
  have e3 : broadcastTo S32x128 (shapeCast S1x128 (B j) shapeCasts_S1x128_S1x128) broadcasts_S1x128_S32x128 (ix32 r l) = B j (ixB l) := by
    rw [bcastB_apply, shapeCast_self]
  have e4 : shapeCast S32x128 (X j) shapeCasts_S32x128_S32x128 (ix32 r l) = X j (ix32 r l) := by rw [shapeCast_self]
  exact congrArg₂ (fun x y : EReal => x + y) (congrArg₂ (fun x y : EReal => x + y) (e1.trans e2) e3) e4

end First

/-! ## The same, over the arguments -/

section Args
variable (a0 : Vec Ideal S4x3x2048x7168 .fp8e4m3) (a1 : Vec Ideal S4x3x2048x224 .f32) (a2 : Vec Ideal S7168 .f32) (a3 : Vec Ideal S3x2048x7168 .bf16)

/-- The new residual at row `n`, column `d`. -/
def resAt (n d : ℕ) : EReal :=
  a0 (i4P 0 n d) * a1 (i4S 0 n (d / 32)) + a0 (i4P 1 n d) * a1 (i4S 1 n (d / 32)) + a0 (i4P 2 n d) * a1 (i4S 2 n (d / 32))
    + a0 (i4P 3 n d) * a1 (i4S 3 n (d / 32)) + a2 (i1 d) + a3 (i3 n d)

theorem nr_args (n j l : ℕ) (hj : j < 56) (hl : l < 128) :
    nr (tP a0 (n / 32)) (tS a1 (n / 32)) (tV a2) (tX a3 (n / 32)) j (ix32 n l) = resAt a0 a1 a2 a3 n (128 * j + l) := by
  rw [ix32_congr (r' := n % 32) (l' := l) (by omega) rfl, nr_apply _ _ _ _ j (n % 32) l hj (by omega) hl]
  have e : ∀ p, val (tP a0 (n / 32)) (tS a1 (n / 32)) p j (n % 32) l = a0 (i4P p n (128 * j + l)) * a1 (i4S p n ((128 * j + l) / 32)) := fun p => by
    refine congrArg₂ (fun x y : EReal => x * y) (congrArg a0 (i4P_congr rfl ?_ ?_)) (congrArg a1 (i4S_congr rfl ?_ ?_))
    · show 32 * (n / 32) + n % 32 % 32 = n; omega
    · show 128 * (j % 56) + l % 128 = _; omega
    · show 32 * (n / 32) + n % 32 % 32 = n; omega
    · show (4 * j + l / 32) % 224 = _; omega
  rw [e 0, e 1, e 2, e 3]
  refine congrArg₂ (fun x y : EReal => x + y) (congrArg₂ (fun x y : EReal => x + y) rfl (congrArg a2 (congrArg i1 ?_))) (congrArg a3 (congrArg₂ i3 ?_ ?_))
  · show 128 * (j % 56) + l % 128 = _; omega
  · show 32 * (n / 32) + n % 32 % 32 = n; omega
  · show 128 * (j % 56) + l % 128 = _; omega

/-- THE KERNEL'S FIRST RESULT, row by row. -/
theorem atNr_eq (n d : ℕ) (hd : d < 7168) : atNr a0 a1 a2 a3 n d = resAt a0 a1 a2 a3 n d := by
  unfold atNr
  rw [ix32_congr (r' := n) (l' := d % 128) rfl (by omega), nr_args a0 a1 a2 a3 n (d / 128) (d % 128) (by omega) (by omega)]
  rw [show 128 * (d / 128) + d % 128 = d by omega]

end Args

end Cert.KernelIdeal.Tiles

end
-- ==== Proof.RefResidual.lean ====
/- The reference's new residual over the extended reals, read at one index, and its equality with the kernel's. -/
module

public import proofs.«01_k».proof.Proof.Residual
public import proofs.«01_k».proof.Proof.Gen.ReferenceIdeal.Value

@[expose] public section

noncomputable section

namespace Cert.ReferenceIdeal.Point

open Cert.ReferenceIdeal.Gen Cert.ReferenceIdeal.Value Cert.KernelIdeal.Result
open Cert.KernelIdeal.Tiles (resAt atNr_eq)
open Idealize.ShloMosaic Idealize.ShloMosaic.TcCoe Idealize.ShloMosaic.Tactic
open Idealize.SL

variable (a0 : Vec Ideal S4x3x2048x7168 .fp8e4m3) (a1 : Vec Ideal S4x3x2048x224 .f32) (a2 : Vec Ideal S7168 .f32)
  (a3 : Vec Ideal S3x2048x7168 .bf16) (a4 : Vec Ideal S7168 .f32)

/-- The products the reference sums over the four shards. -/
def prods : FVec Ideal S4x3x2048x224x32 .f32 :=
  mulf (extf .f32 (shapeCast S4x3x2048x224x32 a0 shapeCasts_S4x3x2048x7168_S4x3x2048x224x32 : FVec Ideal S4x3x2048x224x32 .fp8e4m3) bitsLt_fp8e4m3_f32)
    (broadcastTo S4x3x2048x224x32 (shapeCast S4x3x2048x224x1 a1 shapeCasts_S4x3x2048x224_S4x3x2048x224x1) broadcasts_S4x3x2048x224x1_S4x3x2048x224x32)

theorem i4P_eq (x : S4x3x2048x7168.Idx) (p n d : ℕ) (h0 : (x 0).val = p % 4) (h1 : 2048 * (x 1).val + (x 2).val = n) (h2 : (x 3).val = d) :
    x = i4P p n d := by
  have b1 : (x 1).val < 3 := (x 1).isLt
  have b2 : (x 2).val < 2048 := (x 2).isLt
  have b3 : (x 3).val < 7168 := (x 3).isLt
  funext a
  fin_cases a
  · exact Fin.ext h0
  · refine Fin.ext ?_; show (x 1).val = n / 2048 % 3; omega
  · refine Fin.ext ?_; show (x 2).val = n % 2048; omega
  · refine Fin.ext ?_; show (x 3).val = d % 7168; omega

theorem i4S_eq (x : S4x3x2048x224.Idx) (p n d : ℕ) (h0 : (x 0).val = p % 4) (h1 : 2048 * (x 1).val + (x 2).val = n) (h2 : (x 3).val = d) :
    x = i4S p n d := by
  have b1 : (x 1).val < 3 := (x 1).isLt
  have b2 : (x 2).val < 2048 := (x 2).isLt
  have b3 : (x 3).val < 224 := (x 3).isLt
  funext a
  fin_cases a
  · exact Fin.ext h0
  · refine Fin.ext ?_; show (x 1).val = n / 2048 % 3; omega
  · refine Fin.ext ?_; show (x 2).val = n % 2048; omega
  · refine Fin.ext ?_; show (x 3).val = d % 224; omega

theorem i3_eq (x : S3x2048x7168.Idx) (n d : ℕ) (h1 : 2048 * (x 0).val + (x 1).val = n) (h2 : (x 2).val = d) : x = i3 n d := by
  have b1 : (x 0).val < 3 := (x 0).isLt
  have b2 : (x 1).val < 2048 := (x 1).isLt
  have b3 : (x 2).val < 7168 := (x 2).isLt
  funext a
  fin_cases a
  · refine Fin.ext ?_; show (x 0).val = n / 2048 % 3; omega
  · refine Fin.ext ?_; show (x 1).val = n % 2048; omega
  · refine Fin.ext ?_; show (x 2).val = d % 7168; omega

theorem i1_eq (x : S7168.Idx) (d : ℕ) (h2 : (x 0).val = d) : x = i1 d := by
  have b3 : (x 0).val < 7168 := (x 0).isLt
  funext a
  fin_cases a
  refine Fin.ext ?_; show (x 0).val = d % 7168; omega

theorem prods_apply (z : S4x3x2048x224x32.Idx) (p n d : ℕ) (h0 : (z 0).val = p % 4) (h1 : 2048 * (z 1).val + (z 2).val = n) (h2 : 32 * (z 3).val + (z 4).val = d) :
    prods a0 a1 z = a0 (i4P p n d) * a1 (i4S p n (d / 32)) := by
  have b0 : (z 0).val < 4 := (z 0).isLt
  have b1 : (z 1).val < 3 := (z 1).isLt
  have b2 : (z 2).val < 2048 := (z 2).isLt
  have b3 : (z 3).val < 224 := (z 3).isLt
  have b4 : (z 4).val < 32 := (z 4).isLt
  refine congrArg₂ (fun x y : EReal => x * y) ?_ ?_
  · refine (shapeCast_apply a0 shapeCasts_S4x3x2048x7168_S4x3x2048x224x32 z (i4P p n d) ?_)
    rw [Shape.rowMajor_val_four, Shape.rowMajor_val_five]
    show ((p % 4 * 3 + n / 2048 % 3) * 2048 + n % 2048) * 7168 + d % 7168 = ((((z 0).val * 3 + (z 1).val) * 2048 + (z 2).val) * 224 + (z 3).val) * 32 + (z 4).val
    omega
  · refine (broadcastTo_apply _ broadcasts_S4x3x2048x224x1_S4x3x2048x224x32 z (fun a => match a with | ⟨0, _⟩ => z 0 | ⟨1, _⟩ => z 1 | ⟨2, _⟩ => z 2 | ⟨3, _⟩ => z 3 | ⟨4, _⟩ => ⟨0 % 1, Nat.mod_lt _ (by decide)⟩ : S4x3x2048x224x1.Idx) (fun a => ?_)).trans ?_
    · match a with
      | ⟨0, _⟩ => show (z 0).val = (if (4 : Nat) = 1 then 0 else (z 0).val); rw [if_neg (by decide)]
      | ⟨1, _⟩ => show (z 1).val = (if (3 : Nat) = 1 then 0 else (z 1).val); rw [if_neg (by decide)]
      | ⟨2, _⟩ => show (z 2).val = (if (2048 : Nat) = 1 then 0 else (z 2).val); rw [if_neg (by decide)]
      | ⟨3, _⟩ => show (z 3).val = (if (224 : Nat) = 1 then 0 else (z 3).val); rw [if_neg (by decide)]
      | ⟨4, _⟩ => show 0 % 1 = (if (1 : Nat) = 1 then 0 else (z 4).val); rw [if_pos rfl]
    · refine (shapeCast_apply a1 shapeCasts_S4x3x2048x224_S4x3x2048x224x1 _ (i4S p n (d / 32)) ?_)
      rw [Shape.rowMajor_val_four, Shape.rowMajor_val_five]
      show ((p % 4 * 3 + n / 2048 % 3) * 2048 + n % 2048) * 224 + d / 32 % 224 = ((((z 0).val * 3 + (z 1).val) * 2048 + (z 2).val) * 224 + (z 3).val) * 1 + 0 % 1
      omega

/-- The reference's sum over the shards, at row `n` and column `d`. -/
theorem shards_apply (z : S3x2048x224x32.Idx) (n d : ℕ) (h1 : 2048 * (z 0).val + (z 1).val = n) (h2 : 32 * (z 2).val + (z 3).val = d) :
    multiReduction .add [0] S3x2048x224x32 (prods a0 a1) 0x00000000#32 reduces_S4x3x2048x224x32_S3x2048x224x32 (.inl rfl) rfl z
      = a0 (i4P 0 n d) * a1 (i4S 0 n (d / 32)) + a0 (i4P 1 n d) * a1 (i4S 1 n (d / 32)) + a0 (i4P 2 n d) * a1 (i4S 2 n (d / 32))
        + a0 (i4P 3 n d) * a1 (i4S 3 n (d / 32)) := by
  have e : ∀ p : Fin 4, prods a0 a1 (reduces_S4x3x2048x224x32_S3x2048x224x32.lift z p) = a0 (i4P p.val n d) * a1 (i4S p.val n (d / 32)) := fun p =>
    prods_apply a0 a1 _ p.val n d (by have := p.isLt; show p.val = _; omega) h1 h2
  refine (Ideal.multiReduction_add_single (prods a0 a1) _ reduces_S4x3x2048x224x32_S3x2048x224x32 _ _ z).trans ?_
  refine (Finset.sum_congr rfl fun p _ => e p).trans ?_
  exact Fin.sum_univ_four (fun p : Fin 4 => a0 (i4P p.val n d) * a1 (i4S p.val n (d / 32)))

/-- THE REFERENCE'S FIRST RESULT at row `n` and column `d`. -/
theorem G5_apply (y : S3x2048x7168.Idx) (n d : ℕ) (h1 : 2048 * (y 0).val + (y 1).val = n) (h2 : (y 2).val = d) :
    k0_pay3 a0 a1 a2 a3 y = resAt a0 a1 a2 a3 n d := by
  have b0 : (y 0).val < 3 := (y 0).isLt
  have b1 : (y 1).val < 2048 := (y 1).isLt
  have b2 : (y 2).val < 7168 := (y 2).isLt
  have e0 : r0_3.idx y = y := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  rw [piece5_0, e0]
  have e1 := shards_apply a0 a1 (ix5_0 y) n d h1 (by show 32 * ((y 2).val / 32) + (y 2).val % 32 = d; omega)
  have e2 : ix5_1 y = i1 d := i1_eq _ d h2
  have e3 : ix5_2 y = i3 n d := i3_eq _ n d h1 h2
  exact congrArg₂ (fun x y : EReal => x + y) (congrArg₂ (fun x y : EReal => x + y) e1 (congrArg a2 e2)) (congrArg a3 e3)

/-- THE FIRST RESULTS AGREE. -/
theorem resNr_eq : resNr a0 a1 a2 a3 = G5 a0 a1 a2 a3 a4 := funext fun y => by
  have b2 : (y 2).val < 7168 := (y 2).isLt
  exact (atNr_eq a0 a1 a2 a3 (2048 * (y 0).val + (y 1).val) (y 2).val b2).trans (G5_apply a0 a1 a2 a3 y _ _ rfl rfl).symm

end Cert.ReferenceIdeal.Point

end
-- ==== Proof.Tree.lean ====
/- The tree of maxima over the extended reals: after its five levels, the lane `l` holds the maximum over the 32 lanes of `l`'s group of
   the tile whose number is the low five bits of `l` in the opposite order. -/
module

public import proofs.«01_k».proof.Proof.Lanes
public import Idealize.ShloMosaic.PureOps.Ideal.Laws

@[expose] public section

noncomputable section

namespace Cert.KernelIdeal.Tiles

open Cert.KernelIdeal.Gen
open Idealize.ShloMosaic Idealize.ShloMosaic.TcCoe Idealize.ShloMosaic.Tactic
open Idealize.SL

/-- The lane `b` away from `l`. -/
def xr (b l : ℕ) : ℕ := if l / b % 2 = 0 then l + b else l - b

/-- A bit of the tree's levels. -/
def Bit (b : ℕ) : Prop := b = 1 ∨ b = 2 ∨ b = 4 ∨ b = 8 ∨ b = 16

theorem bit_words : ∀ (k : Fin 5) (l : Fin 128),
    IntOp.cmpi .eq (IntOp.andi (BitVec.ofNat 32 l.val) (BitVec.ofNat 32 (2 ^ k.val))) 0#32 = (if l.val / 2 ^ k.val % 2 = 0 then 1#1 else 0#1)
    ∧ IntOp.xori (BitVec.ofNat 32 l.val) (BitVec.ofNat 32 (2 ^ k.val)) = BitVec.ofNat 32 (xr (2 ^ k.val) l.val)
    ∧ xr (2 ^ k.val) l.val < 128 ∧ (xr (2 ^ k.val) l.val / 2 ^ k.val % 2 = 0 ↔ ¬ l.val / 2 ^ k.val % 2 = 0) := by decide +kernel

theorem bit_word (b l : ℕ) (hb : Bit b) (hl : l < 128) :
    IntOp.cmpi .eq (IntOp.andi (BitVec.ofNat 32 l) (BitVec.ofNat 32 b)) 0#32 = (if l / b % 2 = 0 then 1#1 else 0#1)
    ∧ IntOp.xori (BitVec.ofNat 32 l) (BitVec.ofNat 32 b) = BitVec.ofNat 32 (xr b l)
    ∧ xr b l < 128 ∧ (xr b l / b % 2 = 0 ↔ ¬ l / b % 2 = 0) := by
  obtain rfl | rfl | rfl | rfl | rfl := hb
  · exact bit_words 0 ⟨l, hl⟩
  · exact bit_words 1 ⟨l, hl⟩
  · exact bit_words 2 ⟨l, hl⟩
  · exact bit_words 3 ⟨l, hl⟩
  · exact bit_words 4 ⟨l, hl⟩

theorem lane8_lt (r l : ℕ) (hl : l < 128) : lane8 (ix8 r l) = BitVec.ofNat 32 l := by rw [lane8_apply, Nat.mod_eq_of_lt hl]

theorem xorPerm_apply (b r l : ℕ) (hb : Bit b) (hl : l < 128) (x : FVec Ideal S8x128 .f32) :
    xorPerm (BitVec.ofNat 32 b) x (ix8 r l) = x (ix8 r (xr b l)) := by
  obtain ⟨_, e, h, _⟩ := bit_word b l hb hl
  refine gat8_apply x _ r l _ (wrap_nat _ h _ _ ?_)
  show IntOp.xori (lane8 (ix8 r l)) (BitVec.ofNat 32 b) = _
  rw [lane8_lt r l hl, e]

theorem pick_apply (b r l : ℕ) (hb : Bit b) (hl : l < 128) (x y : FVec Ideal S8x128 .f32) :
    (select (cmpi .eq (andi lane8 (broadcast S8x128 (BitVec.ofNat 32 b))) (broadcast S8x128 0#32)) x y : FVec Ideal S8x128 .f32) (ix8 r l)
      = if l / b % 2 = 0 then x (ix8 r l) else y (ix8 r l) := by
  obtain ⟨e, _⟩ := bit_word b l hb hl
  show Scalar.select (IntOp.cmpi .eq (IntOp.andi (lane8 (ix8 r l)) (BitVec.ofNat 32 b)) 0#32) (x (ix8 r l)) (y (ix8 r l)) = _
  rw [lane8_lt r l hl, e]
  split <;> rfl

theorem merge_apply (b r l : ℕ) (hb : Bit b) (hl : l < 128) (f : ℕ → FVec Ideal S8x128 .f32) (t : ℕ) :
    merge (BitVec.ofNat 32 b) (f (2 * t)) (f (2 * t + 1)) (ix8 r l)
      = max (f (2 * t + l / b % 2) (ix8 r l) : EReal) (f (2 * t + l / b % 2) (ix8 r (xr b l))) := by
  obtain ⟨_, _, h1, h2⟩ := bit_word b l hb hl
  show max (_ : EReal) _ = _
  refine congrArg₂ max ?_ ?_
  · rw [pick_apply b r l hb hl]
    split
    · rename_i h; rw [h, Nat.add_zero]
    · rename_i h; rw [show l / b % 2 = 1 by omega]
  · rw [xorPerm_apply b r l hb hl, pick_apply b r (xr b l) hb h1]
    split
    · rename_i h; rw [show l / b % 2 = 1 by have := h2.1 h; omega]
    · rename_i h; rw [show l / b % 2 = 0 by by_contra h'; exact h (h2.2 h'), Nat.add_zero]

/-! ## The lanes a level has covered -/

/-- `v` at lane `l` is at most `c` just when `x (T l)` is, at the lanes of `l`'s group that agree with `l` modulo `n`. -/
def Covers (r n : ℕ) (c : EReal) (x : ℕ → FVec Ideal S8x128 .f32) (v : FVec Ideal S8x128 .f32) (T : ℕ → ℕ) : Prop :=
  ∀ l < 128, ((v (ix8 r l) : EReal) ≤ c ↔ ∀ l' < 128, l' / 32 = l / 32 → l' % n = l % n → (x (T l) (ix8 r l') : EReal) ≤ c)

theorem covers_self (r : ℕ) (c : EReal) (x : ℕ → FVec Ideal S8x128 .f32) (t : ℕ) : Covers r 32 c x (x t) (fun _ => t) := by
  intro l hl
  constructor
  · intro h l' _ h1 h2
    rw [show l' = l by omega]; exact h
  · intro h; exact h l hl rfl rfl

theorem covers_pair (r b : ℕ) (hb : Bit b) (c : EReal) (x : ℕ → FVec Ideal S8x128 .f32) (v : FVec Ideal S8x128 .f32) (T : ℕ → ℕ)
    (hT : ∀ l < 128, T (xr b l) = T l) (h : Covers r (2 * b) c x v T) (l : ℕ) (hl : l < 128) :
    ((v (ix8 r l) : EReal) ≤ c ∧ (v (ix8 r (xr b l)) : EReal) ≤ c)
      ↔ ∀ l' < 128, l' / 32 = l / 32 → l' % b = l % b → (x (T l) (ix8 r l') : EReal) ≤ c := by
  obtain ⟨_, _, h1, _⟩ := bit_word b l hb hl
  rw [h l hl, h (xr b l) h1, hT l hl]
  have hx : xr b l / 32 = l / 32 := by
    unfold xr
    obtain rfl | rfl | rfl | rfl | rfl := hb <;> split <;> omega
  have hm : ∀ l', l' % b = l % b ↔ (l' % (2 * b) = l % (2 * b) ∨ l' % (2 * b) = xr b l % (2 * b)) := by
    intro l'
    unfold xr
    obtain rfl | rfl | rfl | rfl | rfl := hb <;> split <;> omega
  rw [hx]
  constructor
  · rintro ⟨ha, hb'⟩ l' h3 h4 h5
    exact ((hm l').1 h5).elim (ha l' h3 h4) (hb' l' h3 h4)
  · intro ha
    exact ⟨fun l' h3 h4 h5 => ha l' h3 h4 ((hm l').2 (.inl h5)), fun l' h3 h4 h5 => ha l' h3 h4 ((hm l').2 (.inr h5))⟩

/-- One level: from the lanes modulo `2 b` to the lanes modulo `b`. -/
theorem covers_level (r b : ℕ) (hb : Bit b) (c : EReal) (x g : ℕ → FVec Ideal S8x128 .f32) (T : ℕ → ℕ → ℕ) (t : ℕ)
    (hT : ∀ t, ∀ l < 128, T t (xr b l) = T t l) (h0 : Covers r (2 * b) c x (g (2 * t)) (T (2 * t)))
    (h1 : Covers r (2 * b) c x (g (2 * t + 1)) (T (2 * t + 1))) :
    Covers r b c x (level (BitVec.ofNat 32 b) g t) (fun l => T (2 * t + l / b % 2) l) := by
  intro l hl
  unfold level
  rw [merge_apply b r l hb hl g t, max_le_iff]
  obtain e | e : l / b % 2 = 0 ∨ l / b % 2 = 1 := by omega
  · simp only [e, Nat.add_zero]; exact covers_pair r b hb c x _ _ (hT _) h0 l hl
  · simp only [e]; exact covers_pair r b hb c x _ _ (hT _) h1 l hl

/-- A vector without partner. -/
theorem covers_lone (r b : ℕ) (hb : Bit b) (c : EReal) (x : ℕ → FVec Ideal S8x128 .f32) (v : FVec Ideal S8x128 .f32) (T : ℕ → ℕ)
    (hT : ∀ l < 128, T (xr b l) = T l) (h : Covers r (2 * b) c x v T) : Covers r b c x (lone (BitVec.ofNat 32 b) v) T := by
  intro l hl
  have e : (lone (BitVec.ofNat 32 b) v (ix8 r l) : EReal) = max (v (ix8 r l) : EReal) (v (ix8 r (xr b l))) := by
    show max (_ : EReal) _ = _
    rw [xorPerm_apply b r l hb hl]
  rw [e, max_le_iff]
  exact covers_pair r b hb c x _ _ hT h l hl

/-! ## The trees -/

/-- The tile a lane follows, level by level. -/
def T16 (t l : ℕ) : ℕ := 2 * t + l / 16 % 2
def T8 (t l : ℕ) : ℕ := T16 (2 * t + l / 8 % 2) l
def T4 (t l : ℕ) : ℕ := T8 (2 * t + l / 4 % 2) l
def T2 (t l : ℕ) : ℕ := T4 (2 * t + l / 2 % 2) l
def T1 (t l : ℕ) : ℕ := T2 (2 * t + l / 1 % 2) l

theorem T16_xr (t l : ℕ) : T16 t (xr 8 l) = T16 t l := by unfold T16 xr; split <;> omega
theorem T8_xr (t l : ℕ) : T8 t (xr 4 l) = T8 t l := by unfold T8 T16 xr; split <;> omega
theorem T4_xr (t l : ℕ) : T4 t (xr 2 l) = T4 t l := by unfold T4 T8 T16 xr; split <;> omega
theorem T2_xr (t l : ℕ) : T2 t (xr 1 l) = T2 t l := by unfold T2 T4 T8 T16 xr; split <;> omega

section Trees
variable (r : ℕ) (c : EReal) (x : ℕ → FVec Ideal S8x128 .f32)

theorem covers16 (t : ℕ) : Covers r 16 c x (level 16#32 x t) (T16 t) :=
  covers_level r 16 (.inr (.inr (.inr (.inr rfl)))) c x x (fun t _ => t) t (fun _ _ _ => rfl) (covers_self r c x _) (covers_self r c x _)
theorem covers8 (t : ℕ) : Covers r 8 c x (level 8#32 (level 16#32 x) t) (T8 t) :=
  covers_level r 8 (.inr (.inr (.inr (.inl rfl)))) c x _ T16 t (fun t l _ => T16_xr t l) (covers16 r c x _) (covers16 r c x _)
theorem covers4 (t : ℕ) : Covers r 4 c x (level 4#32 (level 8#32 (level 16#32 x)) t) (T4 t) :=
  covers_level r 4 (.inr (.inr (.inl rfl))) c x _ T8 t (fun t l _ => T8_xr t l) (covers8 r c x _) (covers8 r c x _)
theorem covers2 (t : ℕ) : Covers r 2 c x (level 2#32 (level 4#32 (level 8#32 (level 16#32 x))) t) (T2 t) :=
  covers_level r 2 (.inr (.inl rfl)) c x _ T4 t (fun t l _ => T4_xr t l) (covers4 r c x _) (covers4 r c x _)
theorem covers32 : Covers r 1 c x (tree32 x) (T1 0) :=
  covers_level r 1 (.inl rfl) c x _ T2 0 (fun t l _ => T2_xr t l) (covers2 r c x _) (covers2 r c x _)

/-- The last level of the shorter tree: its second vector had no partner. -/
theorem covers24 : Covers r 1 c x (tree24 x) (fun l => if l % 2 = 0 then T2 0 l else T4 2 l) := by
  have h0 := covers2 r c x 0
  have h1 := covers_lone r 2 (.inr (.inl rfl)) c x _ _ (fun l _ => T4_xr 2 l) (covers4 r c x 2)
  have h := covers_level r 1 (.inl rfl) c x
    (fun t => match t with | 0 => level 2#32 (level 4#32 (level 8#32 (level 16#32 x))) 0 | _ => lone 2#32 (level 4#32 (level 8#32 (level 16#32 x)) 2))
    (fun t l => match t with | 0 => T2 0 l | _ => T4 2 l) 0
    (fun t l _ => by
      cases t with
      | zero => exact T2_xr 0 l
      | succ t => show T4 2 (xr 1 l) = T4 2 l; unfold T4 T8 T16 xr; split <;> omega) h0 h1
  intro l hl
  refine (h l hl).trans ?_
  obtain e | e : l % 2 = 0 ∨ l % 2 = 1 := by omega
  · simp only [Nat.div_one, e, if_true]
  · simp only [Nat.div_one, e, if_neg one_ne_zero]

end Trees

/-- The maximum over a group of 32 lanes. -/
def groupMax (f : ℕ → EReal) : EReal := (Finset.univ : Finset (Fin 32)).fold max ⊥ (fun k => f k.val)

theorem groupMax_le (f : ℕ → EReal) (c : EReal) : groupMax f ≤ c ↔ ∀ k < 32, f k ≤ c := by
  unfold groupMax
  rw [Finset.fold_max_le]
  exact ⟨fun h k hk => h.2 ⟨k, hk⟩ (Finset.mem_univ _), fun h => ⟨bot_le, fun k _ => h k.val k.isLt⟩⟩

theorem covers_max (r : ℕ) (x : ℕ → FVec Ideal S8x128 .f32) (v : FVec Ideal S8x128 .f32) (T : ℕ → ℕ) (h : ∀ c, Covers r 1 c x v T) (l : ℕ) (hl : l < 128) :
    v (ix8 r l) = groupMax (fun k => x (T l) (ix8 r (32 * (l / 32) + k))) := by
  refine eq_of_forall_ge_iff (α := EReal) fun c => ?_
  rw [groupMax_le]
  refine (h c l hl).trans ⟨fun hh k hk => hh _ (by omega) (by omega) (by omega), fun hh l' h1 h2 _ => ?_⟩
  have := hh (l' % 32) (by omega)
  rwa [show 32 * (l / 32) + l' % 32 = l' by omega] at this

theorem tree32_apply (r : ℕ) (x : ℕ → FVec Ideal S8x128 .f32) (l : ℕ) (hl : l < 128) :
    tree32 x (ix8 r l) = groupMax (fun k => x (rev5 (l % 32)) (ix8 r (32 * (l / 32) + k))) := by
  rw [covers_max r x _ _ (fun c => covers32 r c x) l hl]
  have key : ∀ l : Fin 128, T1 0 l.val = rev5 (l.val % 32) := by decide +kernel
  rw [show T1 0 l = rev5 (l % 32) from key ⟨l, hl⟩]

theorem tree24_apply (r : ℕ) (x : ℕ → FVec Ideal S8x128 .f32) (l : ℕ) (hl : l < 128) (h : rev5 (l % 32) < 24) :
    tree24 x (ix8 r l) = groupMax (fun k => x (rev5 (l % 32)) (ix8 r (32 * (l / 32) + k))) := by
  rw [covers_max r x _ _ (fun c => covers24 r c x) l hl]
  have key : ∀ l : Fin 128, rev5 (l.val % 32) < 24 → (if l.val % 2 = 0 then T2 0 l.val else T4 2 l.val) = rev5 (l.val % 32) := by decide +kernel
  rw [show (if l % 2 = 0 then T2 0 l else T4 2 l) = rev5 (l % 32) from key ⟨l, hl⟩ h]

end Cert.KernelIdeal.Tiles

end
-- ==== Proof.Exponent.lean ====
/- The search for the biased exponent of a bound, over the extended reals. `pw n` is the float whose bits are `n` shifted to the exponent:
   0, then the powers of two from `2^(-126)` to `2^127`, then infinity. The eight steps find the largest `n` with `pw n ≤ a`. -/
module

public import proofs.«01_k».proof.Proof.Lanes
public import Idealize.ShloMosaic.PureOps.Ideal.Laws

@[expose] public section

noncomputable section

namespace Cert.KernelIdeal.Tiles

open Cert.KernelIdeal.Gen
open Idealize.ShloMosaic Idealize.ShloMosaic.TcCoe Idealize.ShloMosaic.Tactic
open Idealize.SL

/-- The float with exponent bits `n`. -/
def pw (n : ℕ) : EReal := Ideal.ofBits .f32 (BitVec.ofNat 32 n <<< 23)

theorem ofBits_eq (b : BitVec 32) : Ideal.ofBits .f32 b = Ideal.ieee 8 23 b := rfl

/-- A float from its three fields. -/
theorem ieee_eq (b : BitVec 32) (x f : ℕ) (e1 : (b.extractLsb' (8 + 23) 1 == 1#1) = false) (e2 : (b.extractLsb' 23 8).toNat = x)
    (e3 : (b.extractLsb' 0 23).toNat = f) (h0 : 0 < x) (h : x < 255) :
    Ideal.ofBits .f32 b = (((2 ^ 23 + (f : ℝ)) * (2 : ℝ) ^ ((x : ℤ) - 150) : ℝ) : EReal) := by
  rw [ofBits_eq]
  unfold Ideal.ieee
  simp only [e1, e2, e3]
  rw [if_neg (by norm_num; omega), if_neg (by omega)]
  congr 1
  push_cast
  simp only [Bool.false_eq_true, if_false, one_mul]
  congr 2
  norm_num
  omega

theorem fields (n : ℕ) (h : n < 256) : ((BitVec.ofNat 32 n <<< 23).extractLsb' (8 + 23) 1 == 1#1) = false
    ∧ ((BitVec.ofNat 32 n <<< 23).extractLsb' 23 8).toNat = n ∧ ((BitVec.ofNat 32 n <<< 23).extractLsb' 0 23).toNat = 0 := by
  have k : ∀ n : Fin 256, ((BitVec.ofNat 32 n.val <<< 23).extractLsb' (8 + 23) 1 == 1#1) = false
    ∧ ((BitVec.ofNat 32 n.val <<< 23).extractLsb' 23 8).toNat = n.val ∧ ((BitVec.ofNat 32 n.val <<< 23).extractLsb' 0 23).toNat = 0 := by decide +kernel
  exact k ⟨n, h⟩

theorem pw_zero : pw 0 = 0 := by
  unfold pw
  rw [show BitVec.ofNat 32 0 <<< 23 = 0x00000000#32 by decide]
  exact Ideal.ofBits_zero_f32

theorem pw_top : pw 255 = ⊤ := by
  obtain ⟨e1, e2, e3⟩ := fields 255 (by omega)
  unfold pw
  rw [ofBits_eq]
  unfold Ideal.ieee
  simp only [e1, e2, e3]
  norm_num

theorem pw_real (n : ℕ) (h0 : 0 < n) (h : n < 255) : pw n = (((2 : ℝ) ^ ((n : ℤ) - 127) : ℝ) : EReal) := by
  obtain ⟨e1, e2, e3⟩ := fields n (by omega)
  unfold pw
  rw [ieee_eq _ n 0 e1 e2 e3 h0 h]
  rw [show ((2 : ℝ) ^ 23 + ((0 : ℕ) : ℝ)) = (2 : ℝ) ^ (23 : ℤ) by norm_num, ← zpow_add₀ (by norm_num)]
  rw [show (23 : ℤ) + ((n : ℤ) - 150) = (n : ℤ) - 127 by omega]

theorem pw_lt {a b : ℕ} (h : a < b) (hb : b ≤ 255) : pw a < pw b := by
  obtain rfl | hb' : b = 255 ∨ b < 255 := by omega
  · obtain rfl | ha : a = 0 ∨ 0 < a := by omega
    · rw [pw_zero, pw_top]; exact EReal.zero_lt_top
    · rw [pw_real a ha h, pw_top]; exact EReal.coe_lt_top _
  · obtain rfl | ha : a = 0 ∨ 0 < a := by omega
    · rw [pw_zero, pw_real b h hb']; exact EReal.coe_pos.2 (by positivity)
    · rw [pw_real a ha (by omega), pw_real b (by omega) hb']
      exact EReal.coe_lt_coe_iff.2 (zpow_lt_zpow_right₀ (by norm_num) (by omega))

theorem pw_le {a b : ℕ} (h : a ≤ b) (hb : b ≤ 255) : pw a ≤ pw b := by
  obtain rfl | h' : a = b ∨ a < b := by omega
  · exact le_rfl
  · exact (pw_lt h' hb).le

/-! ## The eight steps -/

/-- One step: `e + b` is kept if its power is not above `a`. -/
def stepN (a : EReal) (b e : ℕ) : ℕ := if pw (e + b) ≤ a then e + b else e

/-- The biased exponent. -/
def expN (a : EReal) : ℕ :=
  stepN a 1 (stepN a 2 (stepN a 4 (stepN a 8 (stepN a 16 (stepN a 32 (stepN a 64 (stepN a 128 0)))))))

theorem stepN_spec (a : EReal) (b e : ℕ) (h1 : pw e ≤ a) (h2 : e + 2 * b ≤ 256) (h3 : e + 2 * b < 256 → a < pw (e + 2 * b)) :
    pw (stepN a b e) ≤ a ∧ stepN a b e + b ≤ 256 ∧ (stepN a b e + b < 256 → a < pw (stepN a b e + b)) := by
  unfold stepN
  split
  · rename_i h
    refine ⟨h, by omega, fun h' => ?_⟩
    rw [show e + b + b = e + 2 * b by omega]
    exact h3 (by omega)
  · rename_i h
    exact ⟨h1, by omega, fun _ => not_le.1 h⟩

theorem expN_spec (a : EReal) (h : 0 ≤ a) : pw (expN a) ≤ a ∧ expN a + 1 ≤ 256 ∧ (expN a + 1 < 256 → a < pw (expN a + 1)) := by
  have s0 := stepN_spec a 128 0 (by rw [pw_zero]; exact h) (by omega) (by omega)
  have s1 := stepN_spec a 64 _ s0.1 s0.2.1 s0.2.2
  have s2 := stepN_spec a 32 _ s1.1 s1.2.1 s1.2.2
  have s3 := stepN_spec a 16 _ s2.1 s2.2.1 s2.2.2
  have s4 := stepN_spec a 8 _ s3.1 s3.2.1 s3.2.2
  have s5 := stepN_spec a 4 _ s4.1 s4.2.1 s4.2.2
  have s6 := stepN_spec a 2 _ s5.1 s5.2.1 s5.2.2
  exact stepN_spec a 1 _ s6.1 s6.2.1 s6.2.2

/-! ## The printed steps -/

theorem stepN_lt (a : EReal) (b e : ℕ) : stepN a b e ≤ e + b := by unfold stepN; split <;> omega

theorem select_oge (a p : EReal) {w : ℕ} (x y : BitVec w) : Scalar.select (FloatOps.cmpf (F := Ideal) (φ := .f32) .oge a p) x y = if p ≤ a then x else y := by
  rw [Ideal.cmpf_def]
  unfold Ideal.cmp
  by_cases h : p ≤ a
  · simp [h, Scalar.select]
  · simp [h, Scalar.select]

theorem step_apply (a : FVec Ideal S8x128 .f32) (e : IVec S8x128 32) (y : S8x128.Idx) (b n : ℕ) (h : e y = BitVec.ofNat 32 n) :
    step a (BitVec.ofNat 32 b) e y = BitVec.ofNat 32 (stepN (a y) b n) := by
  have e1 : IntOp.addi (e y) (BitVec.ofNat 32 b) = BitVec.ofNat 32 (n + b) := by
    rw [h]; exact (BitVec.ofNat_add n b).symm
  have e2 : IntOp.shli .vector (BitVec.ofNat 32 (n + b)) 23#32 = BitVec.ofNat 32 (n + b) <<< 23 := rfl
  show Scalar.select (FloatOps.cmpf (F := Ideal) (φ := .f32) .oge (a y) (Ideal.ofBits .f32 (IntOp.shli .vector (IntOp.addi (e y) (BitVec.ofNat 32 b)) 23#32))) (IntOp.addi (e y) (BitVec.ofNat 32 b)) (e y) = _
  rw [e1, e2, h, select_oge]
  unfold stepN pw
  split <;> rfl

theorem biased_apply (a : FVec Ideal S8x128 .f32) (y : S8x128.Idx) : biased a y = BitVec.ofNat 32 (expN (a y)) := by
  unfold biased expN
  refine step_apply a _ y 1 _ (step_apply a _ y 2 _ (step_apply a _ y 4 _ (step_apply a _ y 8 _ (step_apply a _ y 16 _ (step_apply a _ y 32 _ (step_apply a _ y 64 _ (step_apply a _ y 128 0 rfl)))))))

end Cert.KernelIdeal.Tiles

end
-- ==== Proof.Scale.lean ====
/- A group's scale and its reciprocal, over the extended reals: what the kernel's search gives is the least power of two above the
   bound, which the reference takes by a minimum over all powers. -/
module

public import proofs.«01_k».proof.Proof.Exponent

@[expose] public section

noncomputable section

namespace Cert.KernelIdeal.Tiles

open Cert.KernelIdeal.Gen
open Idealize.ShloMosaic Idealize.ShloMosaic.TcCoe Idealize.ShloMosaic.Tactic
open Idealize.SL

/-- The kernel's scale and reciprocal of the bound `a`. -/
def scaleK (a : EReal) : EReal := if a = 0 then 1 else pw (expN a + 1)
def invK (a : EReal) : EReal := if a = 0 then 1 else pw (253 - expN a)

theorem pw_127 : pw 127 = 1 := by
  rw [pw_real 127 (by omega) (by omega)]
  norm_num

theorem select_oeq (a p : EReal) {w : ℕ} (x y : BitVec w) : Scalar.select (FloatOps.cmpf (F := Ideal) (φ := .f32) .oeq a p) x y = if a = p then x else y := by
  rw [Ideal.cmpf_def]
  unfold Ideal.cmp
  by_cases h : a = p
  · simp [h, Scalar.select]
  · simp [h, Scalar.select]

theorem expo_apply (a : FVec Ideal S8x128 .f32) (y : S8x128.Idx) :
    expo a y = if a y = 0 then 0#32 else BitVec.ofNat 32 (expN (a y)) - 126#32 := by
  show Scalar.select (FloatOps.cmpf (F := Ideal) (φ := .f32) .oeq (a y) (Ideal.ofBits .f32 0x00000000#32)) 0#32 (IntOp.subi (biased a y) 126#32) = _
  rw [Ideal.ofBits_zero_f32, select_oeq, biased_apply]
  rfl

theorem expN_lt (a : EReal) (h : 0 ≤ a) {n : ℕ} (hn : n ≤ 255) (h' : a < pw n) : expN a < n := by
  by_contra hc
  have hs := expN_spec a h
  exact absurd (lt_of_lt_of_le h' ((pw_le (not_lt.1 hc) (by omega)).trans hs.1)) (lt_irrefl _)

theorem scaleOf_apply (a : FVec Ideal S8x128 .f32) (y : S8x128.Idx) : scaleOf a y = scaleK (a y) := by
  have e : scaleOf a y = Ideal.ofBits .f32 ((expo a y + 127#32) <<< 23) := rfl
  rw [e, expo_apply]
  unfold scaleK
  split
  · rw [← pw_127]; rfl
  · rw [show BitVec.ofNat 32 (expN (a y)) - 126#32 + 127#32 = BitVec.ofNat 32 (expN (a y) + 1) by
      rw [BitVec.ofNat_add]; generalize BitVec.ofNat 32 (expN (a y)) = v
      rw [BitVec.sub_eq_add_neg, BitVec.add_assoc]; rfl]
    rfl

theorem invOf_apply (a : FVec Ideal S8x128 .f32) (y : S8x128.Idx) (h : 0 ≤ a y) (h' : a y < pw 253) : invOf a y = invK (a y) := by
  have e : invOf a y = Ideal.ofBits .f32 ((127#32 - expo a y) <<< 23) := rfl
  have hn := expN_lt (a y) h (by omega) h'
  rw [e, expo_apply]
  unfold invK
  split
  · rw [← pw_127]; rfl
  · have key : ∀ n : Fin 253, 127#32 - (BitVec.ofNat 32 n.val - 126#32) = BitVec.ofNat 32 (253 - n.val) := by decide +kernel
    rw [key ⟨expN (a y), hn⟩]
    rfl

/-! ## The reference's scale -/

/-- The powers the reference compares, as floats. -/
theorem exp2_apply (i : ℕ) (h : i < 254) : Ideal.exp2 ((((BitVec.ofNat 32 i - 126#32).toInt : ℤ) : ℝ) : EReal) = pw (i + 1) := by
  have key : ∀ i : Fin 254, (BitVec.ofNat 32 i.val - 126#32).toInt = (i.val : ℤ) - 126 := by decide +kernel
  rw [key ⟨i, h⟩, pw_real (i + 1) (by omega) (by omega)]
  show ((Real.rpow 2 (((i : ℤ) - 126 : ℤ) : ℝ) : ℝ) : EReal) = _
  rw [show Real.rpow 2 (((i : ℤ) - 126 : ℤ) : ℝ) = (2 : ℝ) ^ ((i : ℤ) - 126) from Real.rpow_intCast 2 _]
  rw [show (((i + 1 : ℕ) : ℤ) - 127) = (i : ℤ) - 126 by push_cast; ring]

/-- The least power above `a`. -/
theorem least_power (a : EReal) (h : 0 ≤ a) (h' : a < ⊤) :
    (Finset.univ : Finset (Fin 254)).fold min ⊤ (fun i : Fin 254 => if a < pw (i.val + 1) then pw (i.val + 1) else ⊤) = pw (expN a + 1) := by
  have hn := expN_lt a h le_rfl (by rw [pw_top]; exact h')
  have hs := expN_spec a h
  apply le_antisymm
  · rw [Finset.fold_min_le]
    obtain h1 | h1 : expN a + 1 = 255 ∨ expN a < 254 := by omega
    · left; rw [h1, pw_top]
    · right
      refine ⟨⟨expN a, h1⟩, Finset.mem_univ _, ?_⟩
      simp only
      rw [if_pos (hs.2.2 (by omega))]
  · rw [Finset.le_fold_min]
    refine ⟨le_top, fun i _ => ?_⟩
    split
    · rename_i hi
      have := expN_lt a h (by omega) hi
      exact pw_le (by omega) (by omega)
    · exact le_top

/-- The reciprocal of the scale. -/
theorem div_scale (a : EReal) (h : 0 ≤ a) (h' : a < pw 253) : Ideal.div 1 (scaleK a) = invK a := by
  have hn := expN_lt a h (by omega) h'
  unfold scaleK invK Ideal.div
  split
  · simp
  · rw [pw_real (expN a + 1) (by omega) (by omega), pw_real (253 - expN a) (by omega) (by omega)]
    rw [if_neg (by
      have : (0 : ℝ) < (2 : ℝ) ^ (((expN a + 1 : ℕ) : ℤ) - 127) := by positivity
      exact (EReal.coe_pos.2 this).ne'), one_mul, ← EReal.coe_inv, ← zpow_neg]
    rw [show -(((expN a + 1 : ℕ) : ℤ) - 127) = ((253 - expN a : ℕ) : ℤ) - 127 by omega]

end Cert.KernelIdeal.Tiles

end
-- ==== Proof.Middle.lean ====
/- What a trip computes after the residual, over the extended reals and over the arguments: the rows' norms, the groups' maxima, the
   bounds of the scales, the scales in the groups' order, and the codes. -/
module

public import proofs.«01_k».proof.Proof.Residual
public import proofs.«01_k».proof.Proof.Tree
public import proofs.«01_k».proof.Proof.Scale

@[expose] public section

noncomputable section

namespace Cert.KernelIdeal.Tiles

open Cert.KernelIdeal.Gen Cert.KernelIdeal.Result
open Idealize.ShloMosaic Idealize.ShloMosaic.TcCoe Idealize.ShloMosaic.Tactic
open Idealize.SL

/-! ## The printed index vectors -/

/-- The index of a group's scale, from the lane's word. -/
def natW (w : BitVec 32) : BitVec 32 :=
  let c := Scalar.select (Scalar.cmpi .eq 4#32 0#32) 1#32 4#32
  let m := IntOp.remsi .vector w c
  let q := Scalar.select (IntOp.andi (IntOp.xori (IntOp.cmpi .slt m 0#32) (Scalar.cmpi .slt c 0#32)) (IntOp.cmpi .ne m 0#32)) (IntOp.addi m c) m
  let t := floorDiv (s := One) (fun _ => w) 4#32 o1
  let bit := fun k l => IntOp.shli .vector (IntOp.andi (IntOp.shrsi .vector t k) 1#32) l
  IntOp.addi (IntOp.muli q 32#32)
    (IntOp.ori (IntOp.ori (IntOp.ori (IntOp.ori (IntOp.ori 0#32 (bit 0#32 4#32)) (bit 1#32 3#32)) (bit 2#32 2#32)) (bit 3#32 1#32)) (bit 4#32 0#32))

theorem natural_apply (s : FVec Ideal S8x128 .f32) (r l : ℕ) (hl : l < 128) : natural s (ix8 r l) = s (ix8 r (32 * (l % 4) + rev5 (l / 4))) := by
  have key : ∀ l : Fin 128, natW (BitVec.ofNat 32 l.val) = BitVec.ofNat 32 (32 * (l.val % 4) + rev5 (l.val / 4)) := by decide +kernel
  have hlt : ∀ l : Fin 128, 32 * (l.val % 4) + rev5 (l.val / 4) < 128 := by decide +kernel
  refine gat8_apply s _ r l _ (wrap_nat _ (hlt ⟨l, hl⟩) _ _ ?_)
  show natW (lane8 (ix8 r l)) = _
  rw [lane8_lt r l hl]
  exact key ⟨l, hl⟩

theorem rev5_lt (t : ℕ) : rev5 t < 32 := by unfold rev5; omega

theorem idx8_apply (jj r l : ℕ) (hl : l < 128) : idx8 jj (ix8 r l) = BitVec.ofNat 32 (32 * (l / 32) + rev5 jj) := by
  show floorDiv lane8 32#32 (ix8 r l) * 32#32 + BitVec.ofNat 32 (rev5 jj) = _
  rw [floorDiv_nat l hl lane8 _ (lane8_lt r l hl), BitVec.ofNat_add, BitVec.ofNat_mul, BitVec.mul_comm]

/-! ## The middle and the codes, over the arguments -/

section Args
variable (a0 : Vec Ideal S4x3x2048x7168 .fp8e4m3) (a1 : Vec Ideal S4x3x2048x224 .f32) (a2 : Vec Ideal S7168 .f32) (a3 : Vec Ideal S3x2048x7168 .bf16)
  (a4 : Vec Ideal S7168 .f32)

/-- The residual times the gain, and its absolute value. -/
def uAt (n d : ℕ) : EReal := resAt a0 a1 a2 a3 n d * a4 (i1 d)
def absAt (n d : ℕ) : EReal := max (uAt a0 a1 a2 a3 a4 n d) (-(uAt a0 a1 a2 a3 a4 n d))

/-- The three constants: 1 / 7168, the epsilon, 1 / 448. -/
def cMean : EReal := Ideal.ofBits .f32 0x39124925#32
def cEps : EReal := Ideal.ofBits .f32 0x358637BD#32
def cMax : EReal := Ideal.ofBits .f32 0x3B124925#32

/-- The row's sum of squares, and the reciprocal of its root mean square. -/
def sqAt (n : ℕ) : EReal := ∑ d ∈ Finset.range 7168, resAt a0 a1 a2 a3 n d * resAt a0 a1 a2 a3 n d
def rmsAt (n : ℕ) : EReal := Ideal.rsqrt (sqAt a0 a1 a2 a3 n * cMean + cEps)

/-- The bound of group `g`'s scale. -/
def bdAt (n g : ℕ) : EReal := groupMax (fun k => absAt a0 a1 a2 a3 a4 n (32 * g + k)) * rmsAt a0 a1 a2 a3 n * cMax

theorem u_args (n j l : ℕ) (hj : j < 56) (hl : l < 128) :
    u (tP a0 (n / 32)) (tS a1 (n / 32)) (tV a2) (tX a3 (n / 32)) (tV a4) j (ix32 n l) = uAt a0 a1 a2 a3 a4 n (128 * j + l) := by
  refine congrArg₂ (fun x y : EReal => x * y) (nr_args a0 a1 a2 a3 n j l hj hl) ?_
  rw [bcastB_apply, shapeCast_self]
  refine congrArg a4 (congrArg i1 ?_)
  show 128 * (j % 56) + l % 128 = _; omega

/-- Eight rows of a tile, read at the row `n`. -/
theorem rows8 (x : FVec Ideal S32x128 .f32) (n l : ℕ) (hl : l < 128) : sl8 (n % 32 / 8) x (ix8 n l) = x (ix32 n l) := by
  rw [sl8_apply (n % 32 / 8) (by omega)]
  refine congrArg x (ix32_congr ?_ ?_)
  · show (8 * (n % 32 / 8) + n % 8) % 32 = n % 32; omega
  · show l % 128 % 128 = l % 128; omega

theorem absU_args (n j l : ℕ) (hj : j < 56) (hl : l < 128) :
    absU (tP a0 (n / 32)) (tS a1 (n / 32)) (tV a2) (tX a3 (n / 32)) (tV a4) (n % 32 / 8) j (ix8 n l) = absAt a0 a1 a2 a3 a4 n (128 * j + l) := by
  have e := (rows8 (u (tP a0 (n / 32)) (tS a1 (n / 32)) (tV a2) (tX a3 (n / 32)) (tV a4) j) n l hl).trans (u_args a0 a1 a2 a3 a4 n j l hj hl)
  exact congrArg (fun x : EReal => max x (-x)) e

theorem sumSq_args (n l : ℕ) (hl : l < 128) (k : ℕ) (hk : k ≤ 56) :
    sumSq (tP a0 (n / 32)) (tS a1 (n / 32)) (tV a2) (tX a3 (n / 32)) (n % 32 / 8) k (ix8 n l)
      = ∑ j ∈ Finset.range k, resAt a0 a1 a2 a3 n (128 * j + l) * resAt a0 a1 a2 a3 n (128 * j + l) := by
  induction k with
  | zero => exact Ideal.ofBits_zero_f32
  | succ k ih =>
    rw [Finset.sum_range_succ]
    have e := (rows8 (res (tP a0 (n / 32)) (tS a1 (n / 32)) (tV a2) (tX a3 (n / 32)) k) n l hl).trans (nr_args a0 a1 a2 a3 n k l (by omega) hl)
    exact congrArg₂ (fun x y : EReal => x + y) (ih (by omega)) (congrArg₂ (fun x y : EReal => x * y) e e)

/-- A sum over the columns is the sum over lanes of the sums over tiles. -/
theorem sum_tiles (f : ℕ → EReal) (m : ℕ) : ∑ d ∈ Finset.range (128 * m), f d = ∑ l ∈ Finset.range 128, ∑ j ∈ Finset.range m, f (128 * j + l) := by
  rw [Finset.sum_comm]
  induction m with
  | zero => rfl
  | succ m ih => rw [Finset.sum_range_succ, ← ih, Nat.mul_succ, Finset.sum_range_add]

theorem rms_args (n : ℕ) :
    rms (tP a0 (n / 32)) (tS a1 (n / 32)) (tV a2) (tX a3 (n / 32)) (n % 32 / 8) (ixC n) = rmsAt a0 a1 a2 a3 n := by
  have e : (shapeCast S8x1 (multiReduction .add [1] S8 (sumSq (tP a0 (n / 32)) (tS a1 (n / 32)) (tV a2) (tX a3 (n / 32)) (n % 32 / 8) 56) 0x00000000#32
      reduces_S8x128_S8 (.inl rfl) rfl) shapeCasts_S8_S8x1 : FVec Ideal S8x1 .f32) (ixC n) = sqAt a0 a1 a2 a3 n := by
    refine (shapeCast_apply _ shapeCasts_S8_S8x1 (ixC n) (ixR n) ?_).trans ?_
    · rw [Shape.rowMajor_val_one, Shape.rowMajor_val_two]
      show n % 8 = n % 8 * 1 + 0 % 1
      omega
    · refine (Ideal.multiReduction_add_single _ _ reduces_S8x128_S8 _ _ (ixR n)).trans ?_
      have el : ∀ l : Fin 128, reduces_S8x128_S8.lift (ixR n) l = ix8 n l.val := fun l => by
        refine (ix8_eq _ _ _ ?_ ?_)
        · rfl
        · show l.val = l.val % 128; have := l.isLt; omega
      refine (Finset.sum_congr rfl fun l _ => (congrArg _ (el l)).trans (sumSq_args a0 a1 a2 a3 n l.val l.isLt 56 le_rfl)).trans ?_
      unfold sqAt
      rw [show 7168 = 128 * 56 from rfl, sum_tiles, Finset.sum_range]
      rfl
  exact congrArg (fun x : EReal => Ideal.rsqrt (x * cMean + cEps)) e

theorem rms_bcast (n l : ℕ) :
    (broadcastTo S8x128 (rms (tP a0 (n / 32)) (tS a1 (n / 32)) (tV a2) (tX a3 (n / 32)) (n % 32 / 8)) broadcasts_S8x1_S8x128 : FVec Ideal S8x128 .f32) (ix8 n l)
      = rmsAt a0 a1 a2 a3 n := by
  rw [bcastC_apply, rms_args]

/-- The maxima at lane `L` of half `h`: those of the group `4 t + L / 32`, `t` the tile of the lane's bits. -/
theorem maxOf_args (n h L t : ℕ) (hL : L < 128) (ht : rev5 (L % 32) = t) (hh : h = 0 ∨ h = 1 ∧ t < 24) :
    maxOf (tP a0 (n / 32)) (tS a1 (n / 32)) (tV a2) (tX a3 (n / 32)) (tV a4) h (n % 32 / 8) (ix8 n L)
      = groupMax (fun k => absAt a0 a1 a2 a3 a4 n (32 * (128 * h + 4 * t + L / 32) + k)) := by
  have hr := rev5_lt (L % 32)
  have hg : ∀ f g : ℕ → EReal, (∀ k < 32, f k = g k) → groupMax f = groupMax g := fun f g e =>
    eq_of_forall_ge_iff fun c => by
      rw [groupMax_le, groupMax_le]
      exact ⟨fun h k hk => (e k hk) ▸ h k hk, fun h k hk => (e k hk).symm ▸ h k hk⟩
  obtain rfl | ⟨rfl, h24⟩ := hh
  · refine (tree32_apply n _ L hL).trans (hg _ _ fun k hk => ?_)
    rw [absU_args a0 a1 a2 a3 a4 n _ _ (by omega) (by omega), ht]
    congr 1; omega
  · refine (tree24_apply n _ L hL (by omega)).trans (hg _ _ fun k hk => ?_)
    rw [absU_args a0 a1 a2 a3 a4 n _ _ (by omega) (by omega), ht]
    congr 1; omega

theorem bnd_args (n h L t : ℕ) (hL : L < 128) (ht : rev5 (L % 32) = t) (hh : h = 0 ∨ h = 1 ∧ t < 24) :
    bnd (tP a0 (n / 32)) (tS a1 (n / 32)) (tV a2) (tX a3 (n / 32)) (tV a4) h (n % 32 / 8) (ix8 n L) = bdAt a0 a1 a2 a3 a4 n (128 * h + 4 * t + L / 32) :=
  congrArg (fun x : EReal => x * cMax)
    (congrArg₂ (fun x y : EReal => x * y) (maxOf_args a0 a1 a2 a3 a4 n h L t hL ht hh) (rms_bcast a0 a1 a2 a3 n L))

/-- THE KERNEL'S SCALES: row `n`, group `g`. -/
theorem atSc_eq (n g : ℕ) (hg : g < 224) : atSc a0 a1 a2 a3 a4 n g = scaleK (bdAt a0 a1 a2 a3 a4 n g) := by
  have k1 : ∀ l : Fin 128, rev5 ((32 * (l.val % 4) + rev5 (l.val / 4)) % 32) = l.val / 4 ∧ (32 * (l.val % 4) + rev5 (l.val / 4)) / 32 = l.val % 4
    ∧ 32 * (l.val % 4) + rev5 (l.val / 4) < 128 := by decide +kernel
  obtain ⟨e1, e2, e3⟩ := k1 ⟨g % 128, Nat.mod_lt _ (by decide)⟩
  simp only at e1 e2 e3
  unfold atSc scl
  rw [ix8_congr (r' := n) (l' := g % 128) rfl (by omega), natural_apply _ n (g % 128) (by omega), scaleOf_apply,
    bnd_args a0 a1 a2 a3 a4 n (g / 128) _ _ e3 e1 (by omega), e2]
  congr 2; omega

/-- THE KERNEL'S CODES: row `n`, column `d`, where the bound is a finite one below `2^126`. -/
theorem atYc_eq (n d : ℕ) (hd : d < 7168) (h0 : 0 ≤ bdAt a0 a1 a2 a3 a4 n (d / 32)) (h1 : bdAt a0 a1 a2 a3 a4 n (d / 32) < pw 253) :
    atYc a0 a1 a2 a3 a4 n d = min (Ideal.ofBits .f32 0x43E00000#32) (max (Ideal.ofBits .f32 0xC3E00000#32)
      (uAt a0 a1 a2 a3 a4 n d * (invK (bdAt a0 a1 a2 a3 a4 n (d / 32)) * rmsAt a0 a1 a2 a3 n))) := by
  have k1 : ∀ t : Fin 32, rev5 (rev5 t.val) = t.val := by decide +kernel
  have hr := rev5_lt (d / 128 % 32)
  have hL : 32 * (d % 128 / 32) + rev5 (d / 128 % 32) < 128 := by omega
  have e1 : rev5 ((32 * (d % 128 / 32) + rev5 (d / 128 % 32)) % 32) = d / 128 % 32 := by
    rw [show (32 * (d % 128 / 32) + rev5 (d / 128 % 32)) % 32 = rev5 (d / 128 % 32) by omega]
    exact k1 ⟨d / 128 % 32, by omega⟩
  have eb : bnd (tP a0 (n / 32)) (tS a1 (n / 32)) (tV a2) (tX a3 (n / 32)) (tV a4) (d / 128 / 32) (n % 32 / 8) (ix8 n (32 * (d % 128 / 32) + rev5 (d / 128 % 32)))
      = bdAt a0 a1 a2 a3 a4 n (d / 32) := by
    rw [bnd_args a0 a1 a2 a3 a4 n (d / 128 / 32) _ _ hL e1 (by omega)]
    congr 1; omega
  have ef : fac (tP a0 (n / 32)) (tS a1 (n / 32)) (tV a2) (tX a3 (n / 32)) (tV a4) (d / 128 / 32) (n % 32 / 8) (ix8 n (32 * (d % 128 / 32) + rev5 (d / 128 % 32)))
      = invK (bdAt a0 a1 a2 a3 a4 n (d / 32)) * rmsAt a0 a1 a2 a3 n := by
    refine congrArg₂ (fun x y : EReal => x * y) ?_ (rms_bcast a0 a1 a2 a3 n _)
    rw [invOf_apply _ _ (by rw [eb]; exact h0) (by rw [eb]; exact h1), eb]
  have ec : clipped (sl8 (n % 32 / 8) (u (tP a0 (n / 32)) (tS a1 (n / 32)) (tV a2) (tX a3 (n / 32)) (tV a4) (d / 128) : FVec Ideal S32x128 .f32))
      (fac (tP a0 (n / 32)) (tS a1 (n / 32)) (tV a2) (tX a3 (n / 32)) (tV a4) (d / 128 / 32) (n % 32 / 8)) (d / 128 % 32) (ix8 n (d % 128))
      = min (Ideal.ofBits .f32 0x43E00000#32) (max (Ideal.ofBits .f32 0xC3E00000#32)
      (uAt a0 a1 a2 a3 a4 n d * (invK (bdAt a0 a1 a2 a3 a4 n (d / 32)) * rmsAt a0 a1 a2 a3 n))) := by
    refine congrArg (fun x : EReal => min (Ideal.ofBits .f32 0x43E00000#32) (max (Ideal.ofBits .f32 0xC3E00000#32) x)) ?_
    refine congrArg₂ (fun x y : EReal => x * y) ?_ ?_
    · rw [rows8 _ n (d % 128) (by omega), u_args a0 a1 a2 a3 a4 n (d / 128) (d % 128) (by omega) (by omega)]
      congr 1; omega
    · rw [← ef]
      exact gat8_apply _ _ n (d % 128) _ (wrap_nat _ hL _ _ (idx8_apply _ n (d % 128) (by omega)))
  refine Eq.trans ?_ ec
  unfold atYc codes code
  rw [ix32_congr (r' := n % 32) (l' := d % 128) (by omega) (by omega)]
  refine (four_apply (fun i => clipped (sl8 i (u (tP a0 (n / 32)) (tS a1 (n / 32)) (tV a2) (tX a3 (n / 32)) (tV a4) (d / 128) : FVec Ideal S32x128 .f32))
      (fac (tP a0 (n / 32)) (tS a1 (n / 32)) (tV a2) (tX a3 (n / 32)) (tV a4) (d / 128 / 32) i) (d / 128 % 32)) concatenates_S8x128_S8x128_S8x128_S8x128_S32x128_d0
      (n % 32) (d % 128) (by omega)).trans ?_
  exact congrArg _ (ix8_congr (by omega) rfl)

end Args

end Cert.KernelIdeal.Tiles

end
-- ==== Proof.Bound.lean ====
/- The bound of a group's scale, over the extended reals: with a gain within the format's range it is a nonnegative real below `2^126`,
   whatever the residual is. -/
module

public import proofs.«01_k».proof.Proof.Middle

@[expose] public section

noncomputable section

namespace Cert.KernelIdeal.Tiles

open Cert.KernelIdeal.Gen Cert.KernelIdeal.Result
open Idealize.ShloMosaic Idealize.ShloMosaic.TcCoe Idealize.ShloMosaic.Tactic
open Idealize.SL

theorem cMean_eq : cMean = ((9586981 * 2 ^ (-36 : ℤ) : ℝ) : EReal) := by
  unfold cMean
  rw [ieee_eq 0x39124925#32 114 1198373 (by decide) (by decide) (by decide) (by decide) (by decide)]
  norm_num
theorem cMax_eq : cMax = ((9586981 * 2 ^ (-32 : ℤ) : ℝ) : EReal) := by
  unfold cMax
  rw [ieee_eq 0x3B124925#32 118 1198373 (by decide) (by decide) (by decide) (by decide) (by decide)]
  norm_num
theorem cEps_eq : cEps = ((8796093 * 2 ^ (-43 : ℤ) : ℝ) : EReal) := by
  unfold cEps
  rw [ieee_eq 0x358637BD#32 107 407485 (by decide) (by decide) (by decide) (by decide) (by decide)]
  norm_num

theorem sq_nonneg' (x : EReal) : 0 ≤ x * x := by
  rcases le_total 0 x with h | h
  · exact EReal.mul_nonneg h h
  · rw [← neg_mul_neg]; exact EReal.mul_nonneg (EReal.neg_nonneg.2 h) (EReal.neg_nonneg.2 h)

/-- The reciprocal root of a nonnegative sum is a nonnegative real; times a summand's root it is at most 100. -/
theorem rms_real (s : EReal) (hs : 0 ≤ s) : ∃ q : ℝ, 0 ≤ q ∧ Ideal.rsqrt (s * cMean + cEps) = (q : EReal)
    ∧ ∀ r : EReal, r * r ≤ s → ∃ p : ℝ, |p| ≤ 100 ∧ r * (q : EReal) = (p : EReal) := by
  rw [cMean_eq, cEps_eq]
  induction s with
  | bot => exact absurd hs (by simp)
  | top =>
    refine ⟨0, le_rfl, ?_, fun r _ => ⟨0, by norm_num, by simp⟩⟩
    rw [EReal.top_mul_coe_of_pos (by norm_num)]
    rfl
  | coe s =>
    have hs' : 0 ≤ s := EReal.coe_nonneg.1 hs
    have hpos : 0 < s * (9586981 * 2 ^ (-36 : ℤ)) + 8796093 * 2 ^ (-43 : ℤ) := by positivity
    refine ⟨(Real.sqrt (s * (9586981 * 2 ^ (-36 : ℤ)) + 8796093 * 2 ^ (-43 : ℤ)))⁻¹, by positivity, ?_, fun r hr => ?_⟩
    · rw [← EReal.coe_mul, ← EReal.coe_add]
      show (if _ then _ else if _ then _ else _) = _
      rw [if_neg (not_lt.2 hpos.le), if_neg hpos.ne']
    · induction r with
      | bot => exact absurd hr (by simp)
      | top => exact absurd hr (by simp)
      | coe r =>
        refine ⟨_, ?_, (EReal.coe_mul _ _).symm⟩
        have hr' : r * r ≤ s := by exact_mod_cast hr
        have hsp := Real.sqrt_pos.2 hpos
        rw [abs_mul, abs_of_pos (inv_pos.2 hsp), ← div_eq_mul_inv, div_le_iff₀ hsp]
        refine abs_le_of_sq_le_sq ?_ (mul_nonneg (by norm_num) hsp.le)
        rw [mul_pow, Real.sq_sqrt hpos.le]
        norm_num
        nlinarith

theorem le_groupMax (f : ℕ → EReal) (k : ℕ) (hk : k < 32) : f k ≤ groupMax f := (groupMax_le f _).1 le_rfl k hk

theorem groupMax_attained (f : ℕ → EReal) : ∃ k < 32, groupMax f = f k ∧ ∀ j < 32, f j ≤ f k := by
  obtain ⟨k, hk, h⟩ := Finset.exists_max_image (Finset.range 32) f ⟨0, by simp⟩
  refine ⟨k, by simpa using hk, le_antisymm ((groupMax_le f _).2 fun j hj => h j (by simpa using hj)) ((groupMax_le f _).1 le_rfl k (by simpa using hk)),
    fun j hj => h j (by simpa using hj)⟩

theorem groupMax_mul (f : ℕ → EReal) (v : EReal) (hv : 0 ≤ v) : groupMax f * v = groupMax (fun k => f k * v) := by
  obtain ⟨k, hk, e, h⟩ := groupMax_attained f
  rw [e]
  exact le_antisymm (le_groupMax (fun k => f k * v) k hk) ((groupMax_le _ _).2 fun j hj => mul_le_mul_of_nonneg_right (h j hj) hv)

theorem abs_mul_nonneg (x v : EReal) (hv : 0 ≤ v) : max x (-x) * v = max (x * v) (-(x * v)) := by
  rw [← EReal.neg_mul]
  exact (Monotone.map_max (f := fun y : EReal => y * v) fun a b h => mul_le_mul_of_nonneg_right h hv)

theorem abs_nonneg' (x : EReal) : 0 ≤ max x (-x) := by
  rcases le_total 0 x with h | h
  · exact h.trans (le_max_left _ _)
  · exact (EReal.neg_nonneg.2 h).trans (le_max_right _ _)

theorem bound_real (p : ℝ) (hp : |p| ≤ 100) (z : EReal) (h : max z (-z) ≤ (((2 ^ 23 + ((8388607 : ℕ) : ℝ)) * (2 : ℝ) ^ (((254 : ℕ) : ℤ) - 150) : ℝ) : EReal)) :
    max ((p : EReal) * z) (-((p : EReal) * z)) * ((9586981 * 2 ^ (-32 : ℤ) : ℝ) : EReal) < (((2 : ℝ) ^ (((253 : ℕ) : ℤ) - 127) : ℝ) : EReal) := by
  induction z with
  | bot => exact absurd h (by rw [EReal.neg_bot, max_eq_right bot_le]; exact not_le.2 (EReal.coe_lt_top _))
  | top => exact absurd h (by rw [EReal.neg_top, max_eq_left bot_le]; exact not_le.2 (EReal.coe_lt_top _))
  | coe z =>
    have hz : |z| ≤ 16777215 * 2 ^ (104 : ℤ) := by
      rw [abs_le']
      obtain ⟨x, y⟩ := max_le_iff.1 h
      rw [← EReal.coe_neg] at y
      have x' := EReal.coe_le_coe_iff.1 x
      have y' := EReal.coe_le_coe_iff.1 y
      norm_num at x' y' ⊢
      exact ⟨x', y'⟩
    have hm : |p * z| ≤ 100 * (16777215 * 2 ^ (104 : ℤ)) := by
      rw [abs_mul]; exact mul_le_mul hp hz (abs_nonneg _) (by norm_num)
    rw [← EReal.coe_mul, ← EReal.coe_neg, ← EReal.coe_strictMono.monotone.map_max, ← EReal.coe_mul]
    refine EReal.coe_lt_coe_iff.2 ?_
    have : max (p * z) (-(p * z)) = |p * z| := rfl
    rw [this]
    calc |p * z| * (9586981 * 2 ^ (-32 : ℤ)) ≤ 100 * (16777215 * 2 ^ (104 : ℤ)) * (9586981 * 2 ^ (-32 : ℤ)) := by gcongr
      _ < 2 ^ (((253 : ℕ) : ℤ) - 127) := by norm_num

section Args
variable (a0 : Vec Ideal S4x3x2048x7168 .fp8e4m3) (a1 : Vec Ideal S4x3x2048x224 .f32) (a2 : Vec Ideal S7168 .f32) (a3 : Vec Ideal S3x2048x7168 .bf16)
  (a4 : Vec Ideal S7168 .f32)

theorem sqAt_nonneg (n : ℕ) : 0 ≤ sqAt a0 a1 a2 a3 n := Finset.sum_nonneg fun _ _ => sq_nonneg' _

theorem rmsAt_nonneg (n : ℕ) : 0 ≤ rmsAt a0 a1 a2 a3 n := by
  obtain ⟨q, h, e, _⟩ := rms_real _ (sqAt_nonneg a0 a1 a2 a3 n)
  unfold rmsAt
  rw [e]; exact EReal.coe_nonneg.2 h

theorem bdAt_nonneg (n g : ℕ) : 0 ≤ bdAt a0 a1 a2 a3 a4 n g := by
  refine EReal.mul_nonneg (EReal.mul_nonneg ?_ (rmsAt_nonneg a0 a1 a2 a3 n)) ?_
  · exact (abs_nonneg' _).trans (le_groupMax (fun k => absAt a0 a1 a2 a3 a4 n (32 * g + k)) 0 (by norm_num))
  · rw [cMax_eq]; exact EReal.coe_nonneg.2 (by positivity)

/-- The bound of group `g`'s scale as the reference forms it: the maximum of the normed values. -/
theorem bdAt_eq (n g : ℕ) : bdAt a0 a1 a2 a3 a4 n g
    = groupMax (fun k => max (uAt a0 a1 a2 a3 a4 n (32 * g + k) * rmsAt a0 a1 a2 a3 n) (-(uAt a0 a1 a2 a3 a4 n (32 * g + k) * rmsAt a0 a1 a2 a3 n))) * cMax := by
  unfold bdAt
  rw [groupMax_mul _ _ (rmsAt_nonneg a0 a1 a2 a3 n)]
  refine congrArg (fun f => groupMax f * cMax) (funext fun k => ?_)
  exact abs_mul_nonneg _ _ (rmsAt_nonneg a0 a1 a2 a3 n)

/-- THE BOUND IS BELOW `2^126` where the gain lies within the format's range. -/
theorem bdAt_lt (h4 : ∀ i, max (a4 i) (-(a4 i)) ≤ Ideal.ofBits .f32 0x7F7FFFFF#32) (n g : ℕ) (hg : g < 224) : bdAt a0 a1 a2 a3 a4 n g < pw 253 := by
  obtain ⟨q, hq, e, hb⟩ := rms_real _ (sqAt_nonneg a0 a1 a2 a3 n)
  have er : rmsAt a0 a1 a2 a3 n = (q : EReal) := e
  rw [bdAt_eq]
  obtain ⟨k, hk, e2, _⟩ := groupMax_attained (fun k => max (uAt a0 a1 a2 a3 a4 n (32 * g + k) * rmsAt a0 a1 a2 a3 n) (-(uAt a0 a1 a2 a3 a4 n (32 * g + k) * rmsAt a0 a1 a2 a3 n)))
  rw [e2, er]
  obtain ⟨p, hp, ep⟩ := hb (resAt a0 a1 a2 a3 n (32 * g + k))
    (Finset.single_le_sum (f := fun d => resAt a0 a1 a2 a3 n d * resAt a0 a1 a2 a3 n d) (fun _ _ => sq_nonneg' _) (Finset.mem_range.2 (by omega)))
  have h4' := h4 (i1 (32 * g + k))
  rw [ieee_eq 0x7F7FFFFF#32 254 8388607 (by decide) (by decide) (by decide) (by decide) (by decide)] at h4'
  have eu : uAt a0 a1 a2 a3 a4 n (32 * g + k) * (q : EReal) = (p : EReal) * a4 (i1 (32 * g + k)) := by
    unfold uAt; rw [mul_right_comm, ep]
  rw [eu, cMax_eq, pw_real 253 (by omega) (by omega)]
  exact bound_real p hp _ h4'

end Args

end Cert.KernelIdeal.Tiles

end
-- ==== Proof.RefScale.lean ====
/- The reference's codes and scales over the extended reals, read at one index, and their equality with the kernel's where the gain lies
   within the format's range. -/
module

public import proofs.«01_k».proof.Proof.RefResidual
public import proofs.«01_k».proof.Proof.Bound

@[expose] public section

noncomputable section

namespace Cert.ReferenceIdeal.Point

open Cert.ReferenceIdeal.Gen Cert.ReferenceIdeal.Value Cert.KernelIdeal.Result
open Cert.KernelIdeal.Tiles (resAt uAt absAt sqAt rmsAt bdAt cMean cEps cMax groupMax scaleK invK pw expN)
open Idealize.ShloMosaic Idealize.ShloMosaic.TcCoe Idealize.ShloMosaic.Tactic
open Idealize.SL

variable (a0 : Vec Ideal S4x3x2048x7168 .fp8e4m3) (a1 : Vec Ideal S4x3x2048x224 .f32) (a2 : Vec Ideal S7168 .f32)
  (a3 : Vec Ideal S3x2048x7168 .bf16) (a4 : Vec Ideal S7168 .f32)

/-! ## Indices -/

/-- Row `n`. -/
def i2 (n : ℕ) : S3x2048.Idx := fun a => match a with
  | ⟨0, _⟩ => ⟨n / 2048 % 3, Nat.mod_lt _ (by decide)⟩ | ⟨1, _⟩ => ⟨n % 2048, Nat.mod_lt _ (by decide)⟩
/-- Row `n`, one column. -/
def i2o (n : ℕ) : S3x2048x1.Idx := fun a => match a with
  | ⟨0, _⟩ => ⟨n / 2048 % 3, Nat.mod_lt _ (by decide)⟩ | ⟨1, _⟩ => ⟨n % 2048, Nat.mod_lt _ (by decide)⟩ | ⟨2, _⟩ => ⟨0 % 1, Nat.mod_lt _ (by decide)⟩
/-- Row `n`, group `g`. -/
def iG (n g : ℕ) : S3x2048x224.Idx := fun a => match a with
  | ⟨0, _⟩ => ⟨n / 2048 % 3, Nat.mod_lt _ (by decide)⟩ | ⟨1, _⟩ => ⟨n % 2048, Nat.mod_lt _ (by decide)⟩ | ⟨2, _⟩ => ⟨g % 224, Nat.mod_lt _ (by decide)⟩
/-- Row `n`, group `g`, one column. -/
def iGo (n g : ℕ) : S3x2048x224x1.Idx := fun a => match a with
  | ⟨0, _⟩ => ⟨n / 2048 % 3, Nat.mod_lt _ (by decide)⟩ | ⟨1, _⟩ => ⟨n % 2048, Nat.mod_lt _ (by decide)⟩ | ⟨2, _⟩ => ⟨g % 224, Nat.mod_lt _ (by decide)⟩
  | ⟨3, _⟩ => ⟨0 % 1, Nat.mod_lt _ (by decide)⟩
/-- Row `n`, group `g`, element `k`. -/
def i4G (n g k : ℕ) : S3x2048x224x32.Idx := fun a => match a with
  | ⟨0, _⟩ => ⟨n / 2048 % 3, Nat.mod_lt _ (by decide)⟩ | ⟨1, _⟩ => ⟨n % 2048, Nat.mod_lt _ (by decide)⟩ | ⟨2, _⟩ => ⟨g % 224, Nat.mod_lt _ (by decide)⟩
  | ⟨3, _⟩ => ⟨k % 32, Nat.mod_lt _ (by decide)⟩
/-- Row `n`, group `g`, power `k`. -/
def i4W (n g k : ℕ) : S3x2048x224x254.Idx := fun a => match a with
  | ⟨0, _⟩ => ⟨n / 2048 % 3, Nat.mod_lt _ (by decide)⟩ | ⟨1, _⟩ => ⟨n % 2048, Nat.mod_lt _ (by decide)⟩ | ⟨2, _⟩ => ⟨g % 224, Nat.mod_lt _ (by decide)⟩
  | ⟨3, _⟩ => ⟨k % 254, Nat.mod_lt _ (by decide)⟩
/-- Power `k`. -/
def iW (k : ℕ) : S1x1x1x254.Idx := fun a => match a with
  | ⟨0, _⟩ => ⟨0 % 1, Nat.mod_lt _ (by decide)⟩ | ⟨1, _⟩ => ⟨0 % 1, Nat.mod_lt _ (by decide)⟩ | ⟨2, _⟩ => ⟨0 % 1, Nat.mod_lt _ (by decide)⟩
  | ⟨3, _⟩ => ⟨k % 254, Nat.mod_lt _ (by decide)⟩
/-- Column `d` of one row. -/
def i3r (d : ℕ) : S1x1x7168.Idx := fun a => match a with
  | ⟨0, _⟩ => ⟨0 % 1, Nat.mod_lt _ (by decide)⟩ | ⟨1, _⟩ => ⟨0 % 1, Nat.mod_lt _ (by decide)⟩ | ⟨2, _⟩ => ⟨d % 7168, Nat.mod_lt _ (by decide)⟩

theorem iG_eq (x : S3x2048x224.Idx) : x = iG (2048 * (x 0).val + (x 1).val) (x 2).val := by
  have b1 : (x 0).val < 3 := (x 0).isLt
  have b2 : (x 1).val < 2048 := (x 1).isLt
  have b3 : (x 2).val < 224 := (x 2).isLt
  funext a
  fin_cases a
  · refine Fin.ext ?_; show (x 0).val = (2048 * (x 0).val + (x 1).val) / 2048 % 3; omega
  · refine Fin.ext ?_; show (x 1).val = (2048 * (x 0).val + (x 1).val) % 2048; omega
  · refine Fin.ext ?_; show (x 2).val = (x 2).val % 224; omega

theorem i4G_eq (x : S3x2048x224x32.Idx) (n g k : ℕ) (h0 : (x 0).val = n / 2048 % 3) (h1 : (x 1).val = n % 2048) (h2 : (x 2).val = g % 224)
    (h3 : (x 3).val = k % 32) : x = i4G n g k := by
  funext a
  fin_cases a
  · exact Fin.ext h0
  · exact Fin.ext h1
  · exact Fin.ext h2
  · exact Fin.ext h3

theorem i4W_eq (x : S3x2048x224x254.Idx) (n g k : ℕ) (h0 : (x 0).val = n / 2048 % 3) (h1 : (x 1).val = n % 2048) (h2 : (x 2).val = g % 224)
    (h3 : (x 3).val = k % 254) : x = i4W n g k := by
  funext a
  fin_cases a
  · exact Fin.ext h0
  · exact Fin.ext h1
  · exact Fin.ext h2
  · exact Fin.ext h3

/-! ## The layout operations at an index -/

theorem toRows_apply (x : FVec Ideal S3x2048x1 .f32) (n d : ℕ) :
    (broadcastTo S3x2048x7168 x broadcasts_S3x2048x1_S3x2048x7168 : FVec Ideal S3x2048x7168 .f32) (i3 n d) = x (i2o n) :=
  broadcastTo_apply x _ (i3 n d) (i2o n) fun a => match a with
    | ⟨0, _⟩ => by show n / 2048 % 3 = (if (3 : Nat) = 1 then 0 else n / 2048 % 3); rw [if_neg (by decide)]
    | ⟨1, _⟩ => by show n % 2048 = (if (2048 : Nat) = 1 then 0 else n % 2048); rw [if_neg (by decide)]
    | ⟨2, _⟩ => by show 0 % 1 = (if (1 : Nat) = 1 then 0 else d % 7168); rw [if_pos rfl]

theorem toCols_apply (x : FVec Ideal S7168 .f32) (n d : ℕ) :
    (broadcastTo S3x2048x7168 (shapeCast S1x1x7168 x shapeCasts_S7168_S1x1x7168) broadcasts_S1x1x7168_S3x2048x7168 : FVec Ideal S3x2048x7168 .f32) (i3 n d)
      = x (i1 d) := by
  refine (broadcastTo_apply _ broadcasts_S1x1x7168_S3x2048x7168 (i3 n d) (i3r d) fun a => ?_).trans (shapeCast_apply x _ (i3r d) (i1 d) ?_)
  · match a with
    | ⟨0, _⟩ => show 0 % 1 = (if (1 : Nat) = 1 then 0 else n / 2048 % 3); rw [if_pos rfl]
    | ⟨1, _⟩ => show 0 % 1 = (if (1 : Nat) = 1 then 0 else n % 2048); rw [if_pos rfl]
    | ⟨2, _⟩ => show d % 7168 = (if (7168 : Nat) = 1 then 0 else d % 7168); rw [if_neg (by decide)]
  · rw [Shape.rowMajor_val_one, Shape.rowMajor_val_three]
    show d % 7168 = (0 % 1 * 1 + 0 % 1) * 7168 + d % 7168
    omega

theorem one_apply (x : FVec Ideal S3x2048 .f32) (n : ℕ) :
    (shapeCast S3x2048x1 x shapeCasts_S3x2048_S3x2048x1 : FVec Ideal S3x2048x1 .f32) (i2o n) = x (i2 n) := by
  refine shapeCast_apply x _ (i2o n) (i2 n) ?_
  rw [Shape.rowMajor_val_two, Shape.rowMajor_val_three]
  show n / 2048 % 3 * 2048 + n % 2048 = (n / 2048 % 3 * 2048 + n % 2048) * 1 + 0 % 1
  omega

theorem oneG_apply (x : FVec Ideal S3x2048x224 .f32) (n g : ℕ) :
    (shapeCast S3x2048x224x1 x shapeCasts_S3x2048x224_S3x2048x224x1 : FVec Ideal S3x2048x224x1 .f32) (iGo n g) = x (iG n g) := by
  refine shapeCast_apply x _ (iGo n g) (iG n g) ?_
  rw [Shape.rowMajor_val_three, Shape.rowMajor_val_four]
  show (n / 2048 % 3 * 2048 + n % 2048) * 224 + g % 224 = ((n / 2048 % 3 * 2048 + n % 2048) * 224 + g % 224) * 1 + 0 % 1
  omega

theorem toGroups_apply (x : FVec Ideal S3x2048x224x1 .f32) (n g k : ℕ) :
    (broadcastTo S3x2048x224x32 x broadcasts_S3x2048x224x1_S3x2048x224x32 : FVec Ideal S3x2048x224x32 .f32) (i4G n g k) = x (iGo n g) :=
  broadcastTo_apply x _ (i4G n g k) (iGo n g) fun a => match a with
    | ⟨0, _⟩ => by show n / 2048 % 3 = (if (3 : Nat) = 1 then 0 else n / 2048 % 3); rw [if_neg (by decide)]
    | ⟨1, _⟩ => by show n % 2048 = (if (2048 : Nat) = 1 then 0 else n % 2048); rw [if_neg (by decide)]
    | ⟨2, _⟩ => by show g % 224 = (if (224 : Nat) = 1 then 0 else g % 224); rw [if_neg (by decide)]
    | ⟨3, _⟩ => by show 0 % 1 = (if (1 : Nat) = 1 then 0 else k % 32); rw [if_pos rfl]

theorem toPowers_apply (x : FVec Ideal S3x2048x224x1 .f32) (n g k : ℕ) :
    (broadcastTo S3x2048x224x254 x broadcasts_S3x2048x224x1_S3x2048x224x254 : FVec Ideal S3x2048x224x254 .f32) (i4W n g k) = x (iGo n g) :=
  broadcastTo_apply x _ (i4W n g k) (iGo n g) fun a => match a with
    | ⟨0, _⟩ => by show n / 2048 % 3 = (if (3 : Nat) = 1 then 0 else n / 2048 % 3); rw [if_neg (by decide)]
    | ⟨1, _⟩ => by show n % 2048 = (if (2048 : Nat) = 1 then 0 else n % 2048); rw [if_neg (by decide)]
    | ⟨2, _⟩ => by show g % 224 = (if (224 : Nat) = 1 then 0 else g % 224); rw [if_neg (by decide)]
    | ⟨3, _⟩ => by show 0 % 1 = (if (1 : Nat) = 1 then 0 else k % 254); rw [if_pos rfl]

theorem allPowers_apply (x : FVec Ideal S1x1x1x254 .f32) (n g k : ℕ) :
    (broadcastTo S3x2048x224x254 x broadcasts_S1x1x1x254_S3x2048x224x254 : FVec Ideal S3x2048x224x254 .f32) (i4W n g k) = x (iW k) :=
  broadcastTo_apply x _ (i4W n g k) (iW k) fun a => match a with
    | ⟨0, _⟩ => by show 0 % 1 = (if (1 : Nat) = 1 then 0 else n / 2048 % 3); rw [if_pos rfl]
    | ⟨1, _⟩ => by show 0 % 1 = (if (1 : Nat) = 1 then 0 else n % 2048); rw [if_pos rfl]
    | ⟨2, _⟩ => by show 0 % 1 = (if (1 : Nat) = 1 then 0 else g % 224); rw [if_pos rfl]
    | ⟨3, _⟩ => by show k % 254 = (if (254 : Nat) = 1 then 0 else k % 254); rw [if_neg (by decide)]

/-! ## The normed values -/

theorem res_apply (n d : ℕ) (hn : n < 6144) (hd : d < 7168) : k0_pay3 a0 a1 a2 a3 (i3 n d) = resAt a0 a1 a2 a3 n d :=
  G5_apply a0 a1 a2 a3 (i3 n d) n d (by show 2048 * (n / 2048 % 3) + n % 2048 = n; omega) (by show d % 7168 = d; omega)

/-- The squares of a row, summed. -/
theorem sq_apply (n : ℕ) (hn : n < 6144) (x : FVec Ideal S3x2048x7168 .f32) (hx : ∀ d < 7168, x (i3 n d) = resAt a0 a1 a2 a3 n d) :
    multiReduction .add [2] S3x2048 (mulf x x) 0x00000000#32 reduces_S3x2048x7168_S3x2048 (.inl rfl) rfl (i2 n) = sqAt a0 a1 a2 a3 n := by
  refine (Ideal.multiReduction_add_single (mulf x x) _ reduces_S3x2048x7168_S3x2048 _ _ (i2 n)).trans ?_
  have el : ∀ l : Fin 7168, reduces_S3x2048x7168_S3x2048.lift (i2 n) l = i3 n l.val := fun l =>
    i3_eq _ n l.val (by show 2048 * (n / 2048 % 3) + n % 2048 = n; omega) rfl
  refine (Finset.sum_congr rfl fun l _ => ?_ : _ = ∑ l : Fin 7168, resAt a0 a1 a2 a3 n l.val * resAt a0 a1 a2 a3 n l.val).trans ?_
  · have e := (congrArg x (el l)).trans (hx l.val l.isLt)
    exact congrArg₂ (fun x y : EReal => x * y) e e
  · exact (Finset.sum_range (fun d => resAt a0 a1 a2 a3 n d * resAt a0 a1 a2 a3 n d)).symm

/-- The sums of the squares of the rows. -/
def sumR : FVec Ideal S3x2048 .f32 := multiReduction .add [2] S3x2048 (mulf (extf .f32 (k0_pay3 a0 a1 a2 a3) bitsLt_bf16_f32)
  (extf .f32 (k0_pay3 a0 a1 a2 a3) bitsLt_bf16_f32)) 0x00000000#32 reduces_S3x2048x7168_S3x2048 (.inl rfl) rfl

theorem sumR_apply (n : ℕ) (hn : n < 6144) : sumR a0 a1 a2 a3 (i2 n) = sqAt a0 a1 a2 a3 n :=
  sq_apply a0 a1 a2 a3 n hn (extf .f32 (k0_pay3 a0 a1 a2 a3) bitsLt_bf16_f32) fun d hd => res_apply a0 a1 a2 a3 n d hn hd

/-- The reciprocal roots of the rows' mean squares. -/
def rootR (x : FVec Ideal S3x2048x1 .f32) : FVec Ideal S3x2048x1 .f32 :=
  rsqrt (addf (mulf x (broadcast S3x2048x1 (Scalar.ofBits .f32 0x39124925#32))) (broadcast S3x2048x1 (Scalar.ofBits .f32 0x358637BD#32)))

theorem rootR_at (x : FVec Ideal S3x2048x1 .f32) (z : S3x2048x1.Idx) : rootR x z = Ideal.rsqrt (x z * cMean + cEps) := rfl

/-- The array of reciprocal roots. -/
def roots : FVec Ideal S3x2048x1 .f32 := rootR (shapeCast S3x2048x1 (sumR a0 a1 a2 a3) shapeCasts_S3x2048_S3x2048x1)

theorem roots_apply (n : ℕ) (hn : n < 6144) : roots a0 a1 a2 a3 (i2o n) = rmsAt a0 a1 a2 a3 n := by
  unfold roots
  rw [rootR_at, one_apply, sumR_apply a0 a1 a2 a3 n hn]
  unfold rmsAt
  with_reducible rfl

theorem pay4_eq : k0_pay4 a0 a1 a2 a3 a4 = shapeCast S3x2048x224x32 (mulf (mulf (extf .f32 (k0_pay3 a0 a1 a2 a3) bitsLt_bf16_f32)
    (broadcastTo S3x2048x7168 (roots a0 a1 a2 a3) broadcasts_S3x2048x1_S3x2048x7168))
    (broadcastTo S3x2048x7168 (shapeCast S1x1x7168 a4 shapeCasts_S7168_S1x1x7168) broadcasts_S1x1x7168_S3x2048x7168)) shapeCasts_S3x2048x7168_S3x2048x224x32 := by
  unfold k0_pay4 roots rootR sumR
  with_reducible rfl

theorem grouped_apply (x : FVec Ideal S3x2048x7168 .f32) (n g k : ℕ) (hg : g < 224) (hk : k < 32) :
    (shapeCast S3x2048x224x32 x shapeCasts_S3x2048x7168_S3x2048x224x32 : FVec Ideal S3x2048x224x32 .f32) (i4G n g k) = x (i3 n (32 * g + k)) := by
  refine shapeCast_apply x shapeCasts_S3x2048x7168_S3x2048x224x32 (i4G n g k) (i3 n (32 * g + k)) ?_
  rw [Shape.rowMajor_val_three, Shape.rowMajor_val_four]
  show (n / 2048 % 3 * 2048 + n % 2048) * 7168 + (32 * g + k) % 7168 = ((n / 2048 % 3 * 2048 + n % 2048) * 224 + g % 224) * 32 + k % 32
  omega

theorem product_at (x y z : FVec Ideal S3x2048x7168 .f32) (w : S3x2048x7168.Idx) :
    mulf (mulf x y) z w = ((x w : EReal) * (y w : EReal) * (z w : EReal) : EReal) := rfl

theorem extf_at (x : FVec Ideal S3x2048x7168 .bf16) (w : S3x2048x7168.Idx) :
    (extf .f32 x bitsLt_bf16_f32 : FVec Ideal S3x2048x7168 .f32) w = (x w : EReal) := rfl

/-- A NORMED VALUE at row `n`, group `g`, element `k`. -/
theorem pay4_apply (n g k : ℕ) (hn : n < 6144) (hg : g < 224) (hk : k < 32) :
    k0_pay4 a0 a1 a2 a3 a4 (i4G n g k) = uAt a0 a1 a2 a3 a4 n (32 * g + k) * rmsAt a0 a1 a2 a3 n := by
  rw [pay4_eq, grouped_apply _ n g k hg hk, product_at, extf_at, res_apply a0 a1 a2 a3 n (32 * g + k) hn (by omega), toRows_apply,
    roots_apply a0 a1 a2 a3 n hn, toCols_apply]
  unfold uAt
  exact mul_right_comm _ _ _

theorem negInf_eq : Ideal.ofBits .f32 0xFF800000#32 = (⊥ : EReal) := by
  rw [Cert.KernelIdeal.Tiles.ofBits_eq]
  unfold Ideal.ieee
  simp

theorem posInf_eq : Ideal.ofBits .f32 0x7F800000#32 = (⊤ : EReal) := Cert.KernelIdeal.Tiles.pw_top

theorem groupMax_congr (f g : ℕ → EReal) (e : ∀ k < 32, f k = g k) : groupMax f = groupMax g :=
  eq_of_forall_ge_iff fun c => by
    rw [Cert.KernelIdeal.Tiles.groupMax_le, Cert.KernelIdeal.Tiles.groupMax_le]
    exact ⟨fun h k hk => (e k hk) ▸ h k hk, fun h k hk => (e k hk).symm ▸ h k hk⟩

theorem lift_group (j : S3x2048x224.Idx) (k : Fin 32) : ((reduces_S3x2048x224x32_S3x2048x224.lift j k) 0).val = (j 0).val
    ∧ ((reduces_S3x2048x224x32_S3x2048x224.lift j k) 1).val = (j 1).val ∧ ((reduces_S3x2048x224x32_S3x2048x224.lift j k) 2).val = (j 2).val
    ∧ ((reduces_S3x2048x224x32_S3x2048x224.lift j k) 3).val = k.val := ⟨rfl, rfl, rfl, rfl⟩

theorem lift_power (j : S3x2048x224.Idx) (k : Fin 254) : ((reduces_S3x2048x224x254_S3x2048x224.lift j k) 0).val = (j 0).val
    ∧ ((reduces_S3x2048x224x254_S3x2048x224.lift j k) 1).val = (j 1).val ∧ ((reduces_S3x2048x224x254_S3x2048x224.lift j k) 2).val = (j 2).val
    ∧ ((reduces_S3x2048x224x254_S3x2048x224.lift j k) 3).val = k.val := ⟨rfl, rfl, rfl, rfl⟩

theorem lift_groupG (n g : ℕ) (k : Fin 32) : reduces_S3x2048x224x32_S3x2048x224.lift (iG n g) k = i4G n g k.val := by
  obtain ⟨h0, h1, h2, h3⟩ := lift_group (iG n g) k
  exact i4G_eq _ n g k.val h0 h1 h2 (h3.trans (Nat.mod_eq_of_lt k.isLt).symm)

theorem lift_powerG (n g : ℕ) (k : Fin 254) : reduces_S3x2048x224x254_S3x2048x224.lift (iG n g) k = i4W n g k.val := by
  obtain ⟨h0, h1, h2, h3⟩ := lift_power (iG n g) k
  exact i4W_eq _ n g k.val h0 h1 h2 (h3.trans (Nat.mod_eq_of_lt k.isLt).symm)

theorem fold_group (j : S3x2048x224.Idx) (x : FVec Ideal S3x2048x224x32 .f32) :
    multiReduction .maximumf [3] S3x2048x224 x 0xFF800000#32 reduces_S3x2048x224x32_S3x2048x224 (.inl rfl) rfl j
      = (Finset.univ : Finset (Fin 32)).fold max (Ideal.ofBits .f32 0xFF800000#32) (fun k => (x (reduces_S3x2048x224x32_S3x2048x224.lift j k) : EReal)) :=
  Ideal.multiReduction_maximumf_single x 0xFF800000#32 reduces_S3x2048x224x32_S3x2048x224 (.inl rfl) rfl j

theorem max_at (x : FVec Ideal S3x2048x224x32 .f32) (n g : ℕ) :
    multiReduction .maximumf [3] S3x2048x224 x 0xFF800000#32 reduces_S3x2048x224x32_S3x2048x224 (.inl rfl) rfl (iG n g)
      = groupMax (fun k => x (i4G n g k)) := by
  rw [fold_group, negInf_eq]
  unfold groupMax
  exact congrArg (fun f => (Finset.univ : Finset (Fin 32)).fold max ⊥ f) (funext fun k => congrArg x (lift_groupG n g k))

theorem absf_at (x : FVec Ideal S3x2048x224x32 .f32) (z : S3x2048x224x32.Idx) : absf x z = max (x z : EReal) (-(x z : EReal)) := rfl

theorem pay5_eq : k0_pay5 a0 a1 a2 a3 a4
    = multiReduction .maximumf [3] S3x2048x224 (absf (k0_pay4 a0 a1 a2 a3 a4)) 0xFF800000#32 reduces_S3x2048x224x32_S3x2048x224 (.inl rfl) rfl := by
  unfold k0_pay5
  with_reducible rfl

/-- The maximum of a group's absolute values. -/
theorem pay5_apply (n g : ℕ) (hn : n < 6144) (hg : g < 224) : k0_pay5 a0 a1 a2 a3 a4 (iG n g)
    = groupMax (fun k => max (uAt a0 a1 a2 a3 a4 n (32 * g + k) * rmsAt a0 a1 a2 a3 n) (-(uAt a0 a1 a2 a3 a4 n (32 * g + k) * rmsAt a0 a1 a2 a3 n))) := by
  rw [pay5_eq, max_at]
  refine groupMax_congr _ _ fun k hk => ?_
  rw [absf_at, pay4_apply a0 a1 a2 a3 a4 n g k hn hg hk]

/-! ## The scales -/

theorem pow_at (w : IVec S1x1x1x254 32) (z : S1x1x1x254.Idx) :
    (exp2 (sitofp .f32 (subi w (broadcast S1x1x1x254 126#32)) : FVec Ideal S1x1x1x254 .f32) : FVec Ideal S1x1x1x254 .f32) z
      = Ideal.exp2 ((((w z - 126#32).toInt : ℤ) : ℝ) : EReal) := rfl

theorem iota_at (k : ℕ) : iota .tc S1x1x1x254 32 [3] iota_S1x1x1x254_d3_w32 (iW k) = BitVec.ofNat 32 (k % 254) := by
  show BitVec.ofNat 32 (0 * _ + k % 254) = _
  rw [Nat.zero_mul, Nat.zero_add]

theorem pay6_eq : k0_pay6 (F := Ideal)
    = exp2 (sitofp .f32 (subi (iota .tc S1x1x1x254 32 [3] iota_S1x1x1x254_d3_w32) (broadcast S1x1x1x254 126#32)) : FVec Ideal S1x1x1x254 .f32) := by
  unfold k0_pay6
  with_reducible rfl

theorem pay6_apply (k : ℕ) (hk : k < 254) : (k0_pay6 (F := Ideal)) (iW k) = pw (k + 1) := by
  rw [pay6_eq, pow_at, iota_at, Nat.mod_eq_of_lt hk]
  exact Cert.KernelIdeal.Tiles.exp2_apply k hk

theorem select_ogt (a p x y : EReal) :
    Scalar.select (FloatOps.cmpf (F := Ideal) (φ := .f32) .ogt a p) x y = if p < a then x else y := by
  rw [Ideal.cmpf_def]
  unfold Ideal.cmp
  by_cases h : p < a
  · simp [h, Scalar.select]
  · simp [h, Scalar.select]

theorem select_oeq' (a p x y : EReal) :
    Scalar.select (FloatOps.cmpf (F := Ideal) (φ := .f32) .oeq a p) x y = if a = p then x else y := by
  rw [Ideal.cmpf_def]
  unfold Ideal.cmp
  by_cases h : a = p
  · simp [h, Scalar.select]
  · simp [h, Scalar.select]

/-- The scale from any maxima. -/
theorem pay1_apply (v34 : FVec Ideal S3x2048x224 .f32) (n g : ℕ) (h0 : 0 ≤ v34 (iG n g) * cMax) (h1 : v34 (iG n g) * cMax < ⊤) :
    k0_pay1 v34 (k0_pay6 (F := Ideal)) (shapeCast S3x2048x224x1 v34 shapeCasts_S3x2048x224_S3x2048x224x1) (iG n g) = scaleK (v34 (iG n g) * cMax) := by
  have e0 : v34 (iG n g) = 0 ↔ v34 (iG n g) * cMax = 0 := by
    rw [mul_eq_zero]
    refine ⟨Or.inl, fun h => h.resolve_right ?_⟩
    rw [Cert.KernelIdeal.Tiles.cMax_eq]
    intro h
    have := EReal.coe_eq_zero.1 h
    norm_num at this
  refine Eq.trans (select_oeq' (v34 (iG n g)) (Ideal.ofBits .f32 0x00000000#32) (Ideal.ofBits .f32 0x3F800000#32) _) ?_
  rw [Ideal.ofBits_zero_f32]
  unfold scaleK
  refine if_congr e0 ?_ ?_
  · exact Cert.KernelIdeal.Tiles.pw_127
  · refine Eq.trans ?_ (Cert.KernelIdeal.Tiles.least_power _ h0 h1)
    refine (multiReduction_minimumf_eq_fold _ _ reduces_S3x2048x224x254_S3x2048x224 _ _ (iG n g)).trans ?_
    refine (reduces_S3x2048x224x254_S3x2048x224.fold_filter_drop_single _ _ _ (iG n g)).trans ?_
    refine congrArg₂ (fun b f => (Finset.univ : Finset (Fin 254)).fold min b f) posInf_eq (funext fun k => ?_)
    refine (congrArg _ (lift_powerG n g k)).trans ?_
    refine (select_ogt _ _ _ _).trans ?_
    have e1 := (allPowers_apply (k0_pay6 (F := Ideal)) n g k.val).trans (pay6_apply k.val k.isLt)
    have e2 : (broadcastTo S3x2048x224x254 (shapeCast S1x1x1x254 (k0_pay6 (F := Ideal)) shapeCasts_S1x1x1x254_S1x1x1x254)
        broadcasts_S1x1x1x254_S3x2048x224x254 : FVec Ideal S3x2048x224x254 .f32) (i4W n g k.val) = pw (k.val + 1) := by
      rw [shapeCast_self]; exact e1
    have e3 : (broadcastTo S3x2048x224x254 (mulf (shapeCast S3x2048x224x1 v34 shapeCasts_S3x2048x224_S3x2048x224x1)
        (broadcast S3x2048x224x1 (Scalar.ofBits .f32 0x3B124925#32))) broadcasts_S3x2048x224x1_S3x2048x224x254 : FVec Ideal S3x2048x224x254 .f32)
        (i4W n g k.val) = v34 (iG n g) * cMax :=
      (toPowers_apply _ n g k.val).trans (congrArg (fun x : EReal => x * cMax) (oneG_apply v34 n g))
    rw [e1, e2, e3]
    rfl

/-- The gain lies within the format's range. -/
def GainFinite : Prop := ∀ i, max (a4 i : EReal) (-(a4 i : EReal)) ≤ Ideal.ofBits .f32 0x7F7FFFFF#32

theorem pay8_eq : k0_pay8 a0 a1 a2 a3 a4 = k0_pay5 a0 a1 a2 a3 a4 := by
  unfold k0_pay8
  rw [View.ld_unit_zero (S := S4x3x2048x7168) hz0 _ a0, View.ld_unit_zero (S := S4x3x2048x224) hz1 _ a1, View.ld_unit_zero (S := S7168) hz2 _ a2,
    View.ld_unit_zero (S := S3x2048x7168) hz3 _ a3, View.ld_unit_zero (S := S7168) hz4 _ a4]

theorem pay10_eq : k0_pay10 a0 a1 a2 a3 a4 = shapeCast S3x2048x224x1 (k0_pay5 a0 a1 a2 a3 a4) shapeCasts_S3x2048x224_S3x2048x224x1 := by
  unfold k0_pay10
  rw [View.ld_unit_zero (S := S4x3x2048x7168) hz0 _ a0, View.ld_unit_zero (S := S4x3x2048x224) hz1 _ a1, View.ld_unit_zero (S := S7168) hz2 _ a2,
    View.ld_unit_zero (S := S3x2048x7168) hz3 _ a3, View.ld_unit_zero (S := S7168) hz4 _ a4]
  unfold k0_pay7
  with_reducible rfl

/-- THE REFERENCE'S SCALES at row `n`, group `g`. -/
theorem G7_apply (h4 : GainFinite a4) (n g : ℕ) (hn : n < 6144) (hg : g < 224) : G7 a0 a1 a2 a3 a4 (iG n g) = scaleK (bdAt a0 a1 a2 a3 a4 n g) := by
  have e : k0_pay5 a0 a1 a2 a3 a4 (iG n g) * cMax = bdAt a0 a1 a2 a3 a4 n g := by
    rw [pay5_apply a0 a1 a2 a3 a4 n g hn hg, Cert.KernelIdeal.Tiles.bdAt_eq]
  show k0_pay1 (k0_pay8 a0 a1 a2 a3 a4) (k0_pay9 a0 a1 a2 a3 a4) (k0_pay10 a0 a1 a2 a3 a4) (iG n g) = _
  rw [pay8_eq, pay10_eq, show k0_pay9 a0 a1 a2 a3 a4 = k0_pay6 (F := Ideal) from rfl, pay1_apply _ n g, e]
  · rw [e]; exact Cert.KernelIdeal.Tiles.bdAt_nonneg a0 a1 a2 a3 a4 n g
  · rw [e]; exact (Cert.KernelIdeal.Tiles.bdAt_lt a0 a1 a2 a3 a4 h4 n g hg).trans_le le_top

theorem recip_at (x : FVec Ideal S3x2048x224 .f32) (z : S3x2048x224.Idx) :
    divf (broadcast S3x2048x224 (Scalar.ofBits .f32 0x3F800000#32)) x z = Ideal.div (Ideal.ofBits .f32 0x3F800000#32) (x z) := rfl

theorem clip_at (x y : FVec Ideal S3x2048x224x32 .f32) (z : S3x2048x224x32.Idx) :
    (truncf .fp8e4m3 (minimumf (broadcast S3x2048x224x32 (Scalar.ofBits .f32 0x43E00000#32)) (maximumf (broadcast S3x2048x224x32 (Scalar.ofBits .f32 0xC3E00000#32))
      (mulf x y))) bitsLt_fp8e4m3_f32 : FVec Ideal S3x2048x224x32 .fp8e4m3) z
      = min (Ideal.ofBits .f32 0x43E00000#32) (max (Ideal.ofBits .f32 0xC3E00000#32) ((x z : EReal) * (y z : EReal))) := rfl

theorem flat_apply (x : FVec Ideal S3x2048x224x32 .fp8e4m3) (n d : ℕ) (hd : d < 7168) :
    (shapeCast S3x2048x7168 x shapeCasts_S3x2048x224x32_S3x2048x7168 : FVec Ideal S3x2048x7168 .fp8e4m3) (i3 n d) = x (i4G n (d / 32) (d % 32)) := by
  refine shapeCast_apply x _ (i3 n d) (i4G n (d / 32) (d % 32)) ?_
  rw [Shape.rowMajor_val_three, Shape.rowMajor_val_four]
  show ((n / 2048 % 3 * 2048 + n % 2048) * 224 + d / 32 % 224) * 32 + d % 32 % 32 = (n / 2048 % 3 * 2048 + n % 2048) * 7168 + d % 7168
  omega

theorem pay2_eq (v32 : FVec Ideal S3x2048x224x32 .f32) (v34 : FVec Ideal S3x2048x224 .f32) (v39 : FVec Ideal S1x1x1x254 .f32) (v40 : FVec Ideal S3x2048x224x1 .f32) :
    k0_pay2 v32 v34 v39 v40 = shapeCast S3x2048x7168 (truncf .fp8e4m3 (minimumf (broadcast S3x2048x224x32 (Scalar.ofBits .f32 0x43E00000#32))
      (maximumf (broadcast S3x2048x224x32 (Scalar.ofBits .f32 0xC3E00000#32)) (mulf v32 (broadcastTo S3x2048x224x32 (shapeCast S3x2048x224x1
        (divf (broadcast S3x2048x224 (Scalar.ofBits .f32 0x3F800000#32)) (k0_pay1 v34 v39 v40)) shapeCasts_S3x2048x224_S3x2048x224x1)
        broadcasts_S3x2048x224x1_S3x2048x224x32)))) bitsLt_fp8e4m3_f32) shapeCasts_S3x2048x224x32_S3x2048x7168 := by
  unfold k0_pay2
  with_reducible rfl

/-- THE REFERENCE'S CODES at row `n`, column `d`. -/
theorem G6_apply (h4 : GainFinite a4) (n d : ℕ) (hn : n < 6144) (hd : d < 7168) : G6 a0 a1 a2 a3 a4 (i3 n d)
    = min (Ideal.ofBits .f32 0x43E00000#32) (max (Ideal.ofBits .f32 0xC3E00000#32)
      (uAt a0 a1 a2 a3 a4 n d * rmsAt a0 a1 a2 a3 n * invK (bdAt a0 a1 a2 a3 a4 n (d / 32)))) := by
  have e : k0_pay1 (k0_pay8 a0 a1 a2 a3 a4) (k0_pay9 a0 a1 a2 a3 a4) (k0_pay10 a0 a1 a2 a3 a4) (iG n (d / 32)) = _ :=
    G7_apply a0 a1 a2 a3 a4 h4 n (d / 32) hn (by omega)
  have e1 : (Ideal.ofBits .f32 0x3F800000#32 : EReal) = 1 := Cert.KernelIdeal.Tiles.pw_127
  show k0_pay2 _ _ _ _ (i3 n d) = _
  rw [pay2_eq, flat_apply _ n d hd, clip_at, toGroups_apply, oneG_apply, recip_at, e, e1,
    pay4_apply a0 a1 a2 a3 a4 n (d / 32) (d % 32) hn (by omega) (by omega),
    Cert.KernelIdeal.Tiles.div_scale _ (Cert.KernelIdeal.Tiles.bdAt_nonneg a0 a1 a2 a3 a4 n (d / 32))
      (Cert.KernelIdeal.Tiles.bdAt_lt a0 a1 a2 a3 a4 h4 n (d / 32) (by omega)), show 32 * (d / 32) + d % 32 = d by omega]

/-- THE SCALES AGREE. -/
theorem resSc_eq (h4 : GainFinite a4) : resSc a0 a1 a2 a3 a4 = G7 a0 a1 a2 a3 a4 := funext fun y => by
  have b0 : (y 0).val < 3 := (y 0).isLt
  have b1 : (y 1).val < 2048 := (y 1).isLt
  have b2 : (y 2).val < 224 := (y 2).isLt
  have e := G7_apply a0 a1 a2 a3 a4 h4 (2048 * (y 0).val + (y 1).val) (y 2).val (by omega) b2
  rw [← iG_eq y] at e
  exact (Cert.KernelIdeal.Tiles.atSc_eq a0 a1 a2 a3 a4 (2048 * (y 0).val + (y 1).val) (y 2).val b2).trans e.symm

/-- THE CODES AGREE. -/
theorem resYc_eq (h4 : GainFinite a4) : resYc a0 a1 a2 a3 a4 = G6 a0 a1 a2 a3 a4 := funext fun y => by
  have b0 : (y 0).val < 3 := (y 0).isLt
  have b1 : (y 1).val < 2048 := (y 1).isLt
  have b2 : (y 2).val < 7168 := (y 2).isLt
  have e := G6_apply a0 a1 a2 a3 a4 h4 (2048 * (y 0).val + (y 1).val) (y 2).val (by omega) b2
  rw [← i3_eq y _ _ rfl rfl, mul_assoc, mul_comm (rmsAt _ _ _ _ _)] at e
  exact (Cert.KernelIdeal.Tiles.atYc_eq a0 a1 a2 a3 a4 (2048 * (y 0).val + (y 1).val) (y 2).val b2
    (Cert.KernelIdeal.Tiles.bdAt_nonneg a0 a1 a2 a3 a4 _ _) (Cert.KernelIdeal.Tiles.bdAt_lt a0 a1 a2 a3 a4 h4 _ _ (by omega))).trans e.symm

end Cert.ReferenceIdeal.Point

end
-- ==== Proof.Claims.lean ====
/- The value claims: where the mask is set, the kernel and the reference end with the same values; and everywhere, of all three
   results, if the gain is finite. -/
module

public import proofs.«01_k».proof.Defs
public import proofs.«01_k».proof.Proof.RefScale
public import proofs.«01_k».proof.Proof.Gen.On_only_new_residual
public import Idealize.ShloMosaic.Lib.Quiescent

@[expose] public section

noncomputable section

open Idealize.ShloMosaic Idealize.ShloMosaic.TcCoe Idealize.SL.Sem

namespace Cert.Proof.Claims

open Cert.KernelIdeal.Result

/-- The mask leaves the second and third results out. -/
theorem off1 (a0 a1 a2 a3 a4) (i) (h : (Cert.On_only_new_residual.fn (F := Ideal) a0 a1 a2 a3 a4).2.1 i = 1#1) : False := by
  have : (0#1 : BitVec 1) = 1#1 := h
  exact absurd this (by decide)

theorem off2 (a0 a1 a2 a3 a4) (i) (h : (Cert.On_only_new_residual.fn (F := Ideal) a0 a1 a2 a3 a4).2.2 i = 1#1) : False := by
  have : (0#1 : BitVec 1) = 1#1 := h
  exact absurd this (by decide)

/-- THE CLAIM ABOUT THE NEW RESIDUAL: over the extended reals the new residual of the kernel is the reference's. -/
theorem algebraic : Cert.algebraic_KernelIdeal_ReferenceIdeal_on_only_new_residual := by
  intro m ρ m' ρ' _ hagree
  refine ⟨fun c => resNr (A0 m c) (A1 m c) (A2 m c) (A3 m c), fun c => resYc (A0 m c) (A1 m c) (A2 m c) (A3 m c) (A4 m c),
    fun c => resSc (A0 m c) (A1 m c) (A2 m c) (A3 m c) (A4 m c), ?_, ?_⟩
  · exact (θ_run Cert.KernelIdeal.defs _ _).mono
      (fun _ h c => ⟨fun i _ => congrFun (h c).1 i, fun i _ => congrFun (h c).2.1 i, fun i _ => congrFun (h c).2.2.1 i, (h c).2.2.2⟩)
      (Cert.KernelIdeal.Result.run (F := Ideal) m ρ)
  · refine (θ_run Cert.ReferenceIdeal.defs _ _).mono
      (fun _ h c => ⟨fun i _ => congrFun ((h c).1.trans ?_) i, fun i hi => (off1 _ _ _ _ _ i hi).elim, fun i hi => (off2 _ _ _ _ _ i hi).elim, (h c).2.2.2⟩)
      (Cert.ReferenceIdeal.Value.run (F := Ideal) m' ρ')
    rw [(hagree c).1, (hagree c).2.1, (hagree c).2.2.1, (hagree c).2.2.2.1, (hagree c).2.2.2.2]
    exact (Cert.ReferenceIdeal.Point.resNr_eq (A0 m c) (A1 m c) (A2 m c) (A3 m c) (A4 m c)).symm

/-- The side condition of the precondition's function. -/
theorem gainFacts : Cert.Pre_gain_is_finite.Facts where
  bcast_S_S7168 := by decide

/-- A comparison that came out true. -/
theorem le_of_cmp (a b : EReal) (h : FloatOps.cmpf (F := Ideal) (φ := .f32) .ole a b = 1#1) : a ≤ b := by
  rw [Ideal.cmpf_def] at h
  unfold Ideal.cmp at h
  by_contra hc
  simp [hc] at h

/-- The precondition says that the gain lies within the format's range. -/
theorem finite_of_pre (hP : Cert.Pre_gain_is_finite.Facts) (a0 a1 a2 a3 a4) (h : Cert.Pre_gain_is_finite.fn (F := Ideal) a0 a1 a2 a3 a4 = fun _ => 1#1) :
    Cert.ReferenceIdeal.Point.GainFinite a4 := fun i =>
  le_of_cmp (max (a4 i : EReal) (-(a4 i : EReal))) (Ideal.ofBits .f32 0x7F7FFFFF#32) (congrFun h i)

/-- THE CLAIM ABOUT ALL THREE RESULTS: over the extended reals the new residual, the codes and the scales of the kernel are the
    reference's, if the gain is finite. -/
theorem algebraicAll (hP : Cert.Pre_gain_is_finite.Facts) :
    Cert.algebraic_KernelIdeal_ReferenceIdeal_pre_gain_is_finite (hPre_gain_is_finite := hP) := by
  intro m ρ m' ρ' hpre hagree
  refine ⟨fun c => resNr (A0 m c) (A1 m c) (A2 m c) (A3 m c), fun c => resYc (A0 m c) (A1 m c) (A2 m c) (A3 m c) (A4 m c),
    fun c => resSc (A0 m c) (A1 m c) (A2 m c) (A3 m c) (A4 m c), ?_, ?_⟩
  · exact (θ_run Cert.KernelIdeal.defs _ _).mono (fun _ h c => ⟨(h c).1, (h c).2.1, (h c).2.2.1, (h c).2.2.2⟩)
      (Cert.KernelIdeal.Result.run (F := Ideal) m ρ)
  · have h4 : ∀ c, Cert.ReferenceIdeal.Point.GainFinite (A4 m c) := fun c => finite_of_pre hP _ _ _ _ _ (hpre c)
    refine (θ_run Cert.ReferenceIdeal.defs _ _).mono
      (fun _ h c => ⟨(h c).1.trans ?_, (h c).2.1.trans ?_, (h c).2.2.1.trans ?_, (h c).2.2.2⟩)
      (Cert.ReferenceIdeal.Value.run (F := Ideal) m' ρ')
    · rw [(hagree c).1, (hagree c).2.1, (hagree c).2.2.1, (hagree c).2.2.2.1, (hagree c).2.2.2.2]
      exact (Cert.ReferenceIdeal.Point.resNr_eq (A0 m c) (A1 m c) (A2 m c) (A3 m c) (A4 m c)).symm
    · rw [(hagree c).1, (hagree c).2.1, (hagree c).2.2.1, (hagree c).2.2.2.1, (hagree c).2.2.2.2]
      exact (Cert.ReferenceIdeal.Point.resYc_eq (A0 m c) (A1 m c) (A2 m c) (A3 m c) (A4 m c) (h4 c)).symm
    · rw [(hagree c).1, (hagree c).2.1, (hagree c).2.2.1, (hagree c).2.2.2.1, (hagree c).2.2.2.2]
      exact (Cert.ReferenceIdeal.Point.resSc_eq (A0 m c) (A1 m c) (A2 m c) (A3 m c) (A4 m c) (h4 c)).symm

end Cert.Proof.Claims

end
-- ==== Proof.lean ====
/- The certificate: the frames, `preserves`, and the two value claims, put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.On_only_new_residual
public import proofs.«01_k».proof.Proof.Gen.ReferenceIdeal.Value
public import proofs.«01_k».proof.Proof.FrameKernel
public import proofs.«01_k».proof.Proof.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Claims.gainFacts,
  Cert.On_only_new_residual.Gen.facts, fun m ρ _ => Cert.Kernel.Body.frame m ρ, fun m ρ _ => Cert.KernelIdeal.Body.frame m ρ,
  fun m ρ _ => Cert.KernelIdeal.Body.frame m ρ, fun m ρ _ => Cert.ReferenceIdeal.Gen.frame m ρ, fun m ρ _ => Cert.ReferenceIdeal.Gen.frame m ρ,
  trivial, Claims.algebraicAll Claims.gainFacts, Claims.algebraic⟩

end Cert.Proof

end
